-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S256x1024 : Shape := ⟨2, ![256, 1024]⟩
abbrev S128x1024 : Shape := ⟨2, ![128, 1024]⟩
abbrev S12 : Shape := ⟨1, ![12]⟩
abbrev S_ : Shape := ⟨0, ![]⟩
abbrev S64x512 : Shape := ⟨2, ![64, 512]⟩
abbrev S64x1024 : Shape := ⟨2, ![64, 1024]⟩
abbrev S1 : Shape := ⟨1, ![1]⟩
abbrev S256x512 : Shape := ⟨2, ![256, 512]⟩

abbrev nBuf : Space → Nat
  | .hbm => 3
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S512x1024, .bf16⟩
  | .local _ .vmem, ⟨4, _⟩ => ⟨S256x1024, .bf16⟩
  | .local _ .vmem, ⟨5, _⟩ => ⟨S256x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S256x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_3 : BitVec 32 := 1#32
  let v9 : BitVec 32 := Scalar.muli v6 c1_i32_3
  let v10 : BitVec 32 := Scalar.addi c0_i32 v9
  v10.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_5 : BitVec 32 := 1#32
  let v11 : BitVec 32 := Scalar.muli v7 c1_i32_5
  let v12 : BitVec 32 := Scalar.addi c0_i32_6 v11
  v12.toNat
def k0_off1 (d0 : Dev nD) (c0_i32_19 : BitVec 32) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.divsi v2 c2_i32
  let v20 : BitVec 32 := Scalar.subi c1_i32_11 v3
  let c256_i32_12 : BitVec 32 := 256#32
  let v21 : BitVec 32 := Scalar.muli v20 c256_i32_12
  let c2_i32_18 : BitVec 32 := 2#32
  let c1_i32_17 : BitVec 32 := 1#32
  let c2_i32_0 : BitVec 32 := 2#32
  let v4 : BitVec 32 := Scalar.remsi v2 c2_i32_0
  let v5 : BitVec 32 := Scalar.xori v4 v3
  let v27 : BitVec 32 := Scalar.subi c1_i32_17 v5
  let v28 : BitVec 32 := Scalar.muli c2_i32_18 v27
  let v29 : BitVec 32 := Scalar.addi v28 c0_i32_19
  let c4_i32_20 : BitVec 32 := 4#32
  let v30 : BitVec 32 := Scalar.remsi v29 c4_i32_20
  let c64_i32 : BitVec 32 := 64#32
  let v31 : BitVec 32 := Scalar.muli v30 c64_i32
  let v32 : BitVec 32 := Scalar.addi v21 v31
  let v33 : Index := Scalar.indexCast v32
  let c0_21 : Index := 0#32
  ![v33.toNat, 0]
def k0_off2 (d0 : Dev nD) (c0_i32_19 : BitVec 32) : Fin 2 → Nat :=
  let c2_i32_18 : BitVec 32 := 2#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_0 : BitVec 32 := 2#32
  let v4 : BitVec 32 := Scalar.remsi v2 c2_i32_0
  let c2_i32 : BitVec 32 := 2#32
  let v3 : BitVec 32 := Scalar.divsi v2 c2_i32
  let v5 : BitVec 32 := Scalar.xori v4 v3
  let v27 : BitVec 32 := Scalar.subi c1_i32_17 v5
  let v28 : BitVec 32 := Scalar.muli c2_i32_18 v27
  let v29 : BitVec 32 := Scalar.addi v28 c0_i32_19
  let c4_i32_20 : BitVec 32 := 4#32
  let v30 : BitVec 32 := Scalar.remsi v29 c4_i32_20
  let c64_i32 : BitVec 32 := 64#32
  let v31 : BitVec 32 := Scalar.muli v30 c64_i32
  let v40 : Index := Scalar.indexCast v31
  let c0_24 : Index := 0#32
  ![v40.toNat, 0]
def k0_off3 (d0 : Dev nD) (c0_i32_19 : BitVec 32) : Fin 2 → Nat :=
  let c2_i32_18 : BitVec 32 := 2#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_0 : BitVec 32 := 2#32
  let v4 : BitVec 32 := Scalar.remsi v2 c2_i32_0
  let c2_i32 : BitVec 32 := 2#32
  let v3 : BitVec 32 := Scalar.divsi v2 c2_i32
  let v5 : BitVec 32 := Scalar.xori v4 v3
  let v27 : BitVec 32 := Scalar.subi c1_i32_17 v5
  let v28 : BitVec 32 := Scalar.muli c2_i32_18 v27
  let v29 : BitVec 32 := Scalar.addi v28 c0_i32_19
  let c4_i32_20 : BitVec 32 := 4#32
  let v30 : BitVec 32 := Scalar.remsi v29 c4_i32_20
  let c64_i32 : BitVec 32 := 64#32
  let v31 : BitVec 32 := Scalar.muli v30 c64_i32
  let c0_i32_29 : BitVec 32 := 0#32
  ![v31.toNat, 0]
def k0_dev3 (d0 : Dev nD) : Nat :=
  let c0_i32_28 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_27 : BitVec 32 := 1#32
  let v44 : BitVec 32 := Scalar.muli v6 c1_i32_27
  let v45 : BitVec 32 := Scalar.addi c0_i32_28 v44
  v45.toNat
def k0_off4 (d0 : Dev nD) (c0_i32_33 : BitVec 32) : Fin 2 → Nat :=
  let c512_i32_16 : BitVec 32 := 512#32
  let c1_i32_14 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_0 : BitVec 32 := 2#32
  let v4 : BitVec 32 := Scalar.remsi v2 c2_i32_0
  let c2_i32 : BitVec 32 := 2#32
  let v3 : BitVec 32 := Scalar.divsi v2 c2_i32
  let v5 : BitVec 32 := Scalar.xori v4 v3
  let v24 : BitVec 32 := Scalar.subi c1_i32_14 v5
  let c256_i32_15 : BitVec 32 := 256#32
  let v25 : BitVec 32 := Scalar.muli v24 c256_i32_15
  let v26 : BitVec 32 := Scalar.addi c512_i32_16 v25
  let c2_i32_32 : BitVec 32 := 2#32
  let c1_i32_31 : BitVec 32 := 1#32
  let v52 : BitVec 32 := Scalar.subi c1_i32_31 v3
  let v53 : BitVec 32 := Scalar.muli c2_i32_32 v52
  let v54 : BitVec 32 := Scalar.addi v53 c0_i32_33
  let c4_i32_34 : BitVec 32 := 4#32
  let v55 : BitVec 32 := Scalar.remsi v54 c4_i32_34
  let c64_i32_35 : BitVec 32 := 64#32
  let v56 : BitVec 32 := Scalar.muli v55 c64_i32_35
  let v57 : BitVec 32 := Scalar.addi v26 v56
  let v58 : Index := Scalar.indexCast v57
  let c0_36 : Index := 0#32
  ![v58.toNat, 0]
def k0_off5 (d0 : Dev nD) (c0_i32_33 : BitVec 32) : Fin 2 → Nat :=
  let c2_i32_32 : BitVec 32 := 2#32
  let c1_i32_31 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.divsi v2 c2_i32
  let v52 : BitVec 32 := Scalar.subi c1_i32_31 v3
  let v53 : BitVec 32 := Scalar.muli c2_i32_32 v52
  let v54 : BitVec 32 := Scalar.addi v53 c0_i32_33
  let c4_i32_34 : BitVec 32 := 4#32
  let v55 : BitVec 32 := Scalar.remsi v54 c4_i32_34
  let c64_i32_35 : BitVec 32 := 64#32
  let v56 : BitVec 32 := Scalar.muli v55 c64_i32_35
  let v65 : Index := Scalar.indexCast v56
  let c0_40 : Index := 0#32
  ![v65.toNat, 0]
def k0_off6 (d0 : Dev nD) (c0_i32_33 : BitVec 32) : Fin 2 → Nat :=
  let c2_i32_32 : BitVec 32 := 2#32
  let c1_i32_31 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.divsi v2 c2_i32
  let v52 : BitVec 32 := Scalar.subi c1_i32_31 v3
  let v53 : BitVec 32 := Scalar.muli c2_i32_32 v52
  let v54 : BitVec 32 := Scalar.addi v53 c0_i32_33
  let c4_i32_34 : BitVec 32 := 4#32
  let v55 : BitVec 32 := Scalar.remsi v54 c4_i32_34
  let c64_i32_35 : BitVec 32 := 64#32
  let v56 : BitVec 32 := Scalar.muli v55 c64_i32_35
  let c0_i32_45 : BitVec 32 := 0#32
  ![v56.toNat, 0]
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_43 : BitVec 32 := 1#32
  let v69 : BitVec 32 := Scalar.muli v7 c1_i32_43
  let v70 : BitVec 32 := Scalar.addi c0_i32_44 v69
  v70.toNat
def k0_dev5 (d0 : Dev nD) : Nat :=
  let c0_i32_60 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_59 : BitVec 32 := 1#32
  let v94 : BitVec 32 := Scalar.muli v6 c1_i32_59
  let v95 : BitVec 32 := Scalar.addi c0_i32_60 v94
  v95.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_75 : BitVec 32 := 1#32
  let v119 : BitVec 32 := Scalar.muli v7 c1_i32_75
  let v120 : BitVec 32 := Scalar.addi c0_i32_76 v119
  v120.toNat
def k0_dev7 (d0 : Dev nD) : Nat :=
  let c0_i32_92 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_91 : BitVec 32 := 1#32
  let v144 : BitVec 32 := Scalar.muli v6 c1_i32_91
  let v145 : BitVec 32 := Scalar.addi c0_i32_92 v144
  v145.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_107 : BitVec 32 := 1#32
  let v169 : BitVec 32 := Scalar.muli v7 c1_i32_107
  let v170 : BitVec 32 := Scalar.addi c0_i32_108 v169
  v170.toNat
def k0_dev9 (d0 : Dev nD) : Nat :=
  let c0_i32_124 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_123 : BitVec 32 := 1#32
  let v194 : BitVec 32 := Scalar.muli v6 c1_i32_123
  let v195 : BitVec 32 := Scalar.addi c0_i32_124 v194
  v195.toNat
def k0_dev10 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_139 : BitVec 32 := 1#32
  let v219 : BitVec 32 := Scalar.muli v7 c1_i32_139
  let v220 : BitVec 32 := Scalar.addi c0_i32_140 v219
  v220.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.divsi v2 c2_i32
  let c256_i32 : BitVec 32 := 256#32
  let v19 : BitVec 32 := Scalar.muli v3 c256_i32
  let v227 : Index := Scalar.indexCast v19
  let c0_143 : Index := 0#32
  ![v227.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.divsi v2 c2_i32
  let c256_i32 : BitVec 32 := 256#32
  let v19 : BitVec 32 := Scalar.muli v3 c256_i32
  let v233 : Index := Scalar.indexCast v19
  let c0_147 : Index := 0#32
  ![v233.toNat, 0]
def k0_off9 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_0 : BitVec 32 := 2#32
  let v4 : BitVec 32 := Scalar.remsi v2 c2_i32_0
  let c2_i32 : BitVec 32 := 2#32
  let v3 : BitVec 32 := Scalar.divsi v2 c2_i32
  let v5 : BitVec 32 := Scalar.xori v4 v3
  let c256_i32_13 : BitVec 32 := 256#32
  let v22 : BitVec 32 := Scalar.muli v5 c256_i32_13
  let v23 : BitVec 32 := Scalar.addi c512_i32 v22
  let v235 : Index := Scalar.indexCast v23
  let c0_148 : Index := 0#32
  ![v235.toNat, 0]
def k0_off10 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_0 : BitVec 32 := 2#32
  let v4 : BitVec 32 := Scalar.remsi v2 c2_i32_0
  let c2_i32 : BitVec 32 := 2#32
  let v3 : BitVec 32 := Scalar.divsi v2 c2_i32
  let v5 : BitVec 32 := Scalar.xori v4 v3
  let c256_i32_13 : BitVec 32 := 256#32
  let v22 : BitVec 32 := Scalar.muli v5 c256_i32_13
  let v23 : BitVec 32 := Scalar.addi c512_i32 v22
  let v241 : Index := Scalar.indexCast v23
  let c0_152 : Index := 0#32
  ![v241.toNat, 0]
def k0_off11 (d0 : Dev nD) (c0_i32_155 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.divsi v2 c2_i32
  let c256_i32 : BitVec 32 := 256#32
  let v19 : BitVec 32 := Scalar.muli v3 c256_i32
  let c2_i32_154 : BitVec 32 := 2#32
  let c1_i32_153 : BitVec 32 := 1#32
  let c2_i32_0 : BitVec 32 := 2#32
  let v4 : BitVec 32 := Scalar.remsi v2 c2_i32_0
  let v5 : BitVec 32 := Scalar.xori v4 v3
  let v243 : BitVec 32 := Scalar.subi c1_i32_153 v5
  let v244 : BitVec 32 := Scalar.muli c2_i32_154 v243
  let v245 : BitVec 32 := Scalar.addi v244 c0_i32_155
  let c4_i32_156 : BitVec 32 := 4#32
  let v246 : BitVec 32 := Scalar.remsi v245 c4_i32_156
  let c64_i32_157 : BitVec 32 := 64#32
  let v247 : BitVec 32 := Scalar.muli v246 c64_i32_157
  let v254 : BitVec 32 := Scalar.addi v19 v247
  let v255 : Index := Scalar.indexCast v254
  let c0_164 : Index := 0#32
  ![v255.toNat, 0]
def k0_dev11 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_170 : BitVec 32 := 1#32
  let v265 : BitVec 32 := Scalar.muli v7 c1_i32_170
  let v266 : BitVec 32 := Scalar.addi c0_i32_171 v265
  v266.toNat
def k0_off12 (d0 : Dev nD) (c0_i32_178 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_0 : BitVec 32 := 2#32
  let v4 : BitVec 32 := Scalar.remsi v2 c2_i32_0
  let c2_i32 : BitVec 32 := 2#32
  let v3 : BitVec 32 := Scalar.divsi v2 c2_i32
  let v5 : BitVec 32 := Scalar.xori v4 v3
  let c256_i32_13 : BitVec 32 := 256#32
  let v22 : BitVec 32 := Scalar.muli v5 c256_i32_13
  let v23 : BitVec 32 := Scalar.addi c512_i32 v22
  let c2_i32_177 : BitVec 32 := 2#32
  let c1_i32_176 : BitVec 32 := 1#32
  let v273 : BitVec 32 := Scalar.subi c1_i32_176 v3
  let v274 : BitVec 32 := Scalar.muli c2_i32_177 v273
  let v275 : BitVec 32 := Scalar.addi v274 c0_i32_178
  let c4_i32_179 : BitVec 32 := 4#32
  let v276 : BitVec 32 := Scalar.remsi v275 c4_i32_179
  let c64_i32_180 : BitVec 32 := 64#32
  let v277 : BitVec 32 := Scalar.muli v276 c64_i32_180
  let v284 : BitVec 32 := Scalar.addi v23 v277
  let v285 : Index := Scalar.indexCast v284
  let c0_187 : Index := 0#32
  ![v285.toNat, 0]
def k0_dev12 (d0 : Dev nD) : Nat :=
  let c0_i32_194 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_193 : BitVec 32 := 1#32
  let v295 : BitVec 32 := Scalar.muli v6 c1_i32_193
  let v296 : BitVec 32 := Scalar.addi c0_i32_194 v295
  v296.toNat
def k0_dev13 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_214 : BitVec 32 := 1#32
  let v325 : BitVec 32 := Scalar.muli v7 c1_i32_214
  let v326 : BitVec 32 := Scalar.addi c0_i32_215 v325
  v326.toNat
def k0_dev14 (d0 : Dev nD) : Nat :=
  let c0_i32_238 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_237 : BitVec 32 := 1#32
  let v355 : BitVec 32 := Scalar.muli v6 c1_i32_237
  let v356 : BitVec 32 := Scalar.addi c0_i32_238 v355
  v356.toNat
def k0_dev15 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_309 : BitVec 32 := 1#32
  let v437 : BitVec 32 := Scalar.muli v7 c1_i32_309
  let v438 : BitVec 32 := Scalar.addi c0_i32_310 v437
  v438.toNat
def k0_dev16 (d0 : Dev nD) : Nat :=
  let c0_i32_317 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_316 : BitVec 32 := 1#32
  let v445 : BitVec 32 := Scalar.muli v6 c1_i32_316
  let v446 : BitVec 32 := Scalar.addi c0_i32_317 v445
  v446.toNat
def k0_dev17 (d0 : Dev nD) : Nat :=
  let c0_i32_345 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_344 : BitVec 32 := 1#32
  let v483 : BitVec 32 := Scalar.muli v6 c1_i32_344
  let v484 : BitVec 32 := Scalar.addi c0_i32_345 v483
  v484.toNat
def k0_dev18 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_352 : BitVec 32 := 1#32
  let v491 : BitVec 32 := Scalar.muli v7 c1_i32_352
  let v492 : BitVec 32 := Scalar.addi c0_i32_353 v491
  v492.toNat
def k0_dev19 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_379 : BitVec 32 := 1#32
  let v529 : BitVec 32 := Scalar.muli v7 c1_i32_379
  let v530 : BitVec 32 := Scalar.addi c0_i32_380 v529
  v530.toNat
def k0_dev20 (d0 : Dev nD) : Nat :=
  let c0_i32_387 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_386 : BitVec 32 := 1#32
  let v537 : BitVec 32 := Scalar.muli v6 c1_i32_386
  let v538 : BitVec 32 := Scalar.addi c0_i32_387 v537
  v538.toNat
def k0_dev21 (d0 : Dev nD) : Nat :=
  let c0_i32_415 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_414 : BitVec 32 := 1#32
  let v575 : BitVec 32 := Scalar.muli v6 c1_i32_414
  let v576 : BitVec 32 := Scalar.addi c0_i32_415 v575
  v576.toNat
def k0_dev22 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_422 : BitVec 32 := 1#32
  let v583 : BitVec 32 := Scalar.muli v7 c1_i32_422
  let v584 : BitVec 32 := Scalar.addi c0_i32_423 v583
  v584.toNat
def k0_dev23 (d0 : Dev nD) : Nat :=
  let c0_i32_442 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_441 : BitVec 32 := 1#32
  let v602 : BitVec 32 := Scalar.muli v6 c1_i32_441
  let v603 : BitVec 32 := Scalar.addi c0_i32_442 v602
  v603.toNat
def k0_dev24 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_464 : BitVec 32 := 1#32
  let v626 : BitVec 32 := Scalar.muli v7 c1_i32_464
  let v627 : BitVec 32 := Scalar.addi c0_i32_465 v626
  v627.toNat
def k0_dev25 (d0 : Dev nD) : Nat :=
  let c0_i32_487 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_486 : BitVec 32 := 1#32
  let v650 : BitVec 32 := Scalar.muli v6 c1_i32_486
  let v651 : BitVec 32 := Scalar.addi c0_i32_487 v650
  v651.toNat
def k0_dev26 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 32 := Scalar.xori v2 c1_i32_1
  let c1_i32_509 : BitVec 32 := 1#32
  let v674 : BitVec 32 := Scalar.muli v7 c1_i32_509
  let v675 : BitVec 32 := Scalar.addi c0_i32_510 v674
  v675.toNat
def k0_off13 (d0 : Dev nD) (c2_i32_519 : BitVec 32) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.divsi v2 c2_i32
  let v20 : BitVec 32 := Scalar.subi c1_i32_11 v3
  let c256_i32_12 : BitVec 32 := 256#32
  let v21 : BitVec 32 := Scalar.muli v20 c256_i32_12
  let c2_i32_518 : BitVec 32 := 2#32
  let c1_i32_517 : BitVec 32 := 1#32
  let c2_i32_0 : BitVec 32 := 2#32
  let v4 : BitVec 32 := Scalar.remsi v2 c2_i32_0
  let v5 : BitVec 32 := Scalar.xori v4 v3
  let v687 : BitVec 32 := Scalar.subi c1_i32_517 v5
  let v688 : BitVec 32 := Scalar.muli c2_i32_518 v687
  let v689 : BitVec 32 := Scalar.addi v688 c2_i32_519
  let c4_i32_520 : BitVec 32 := 4#32
  let v690 : BitVec 32 := Scalar.remsi v689 c4_i32_520
  let c64_i32_521 : BitVec 32 := 64#32
  let v691 : BitVec 32 := Scalar.muli v690 c64_i32_521
  let v701 : BitVec 32 := Scalar.addi v21 v691
  let v702 : Index := Scalar.indexCast v701
  let c0_530 : Index := 0#32
  ![v702.toNat, 0]
def k0_off14 (d0 : Dev nD) (c2_i32_533 : BitVec 32) : Fin 2 → Nat :=
  let c512_i32_16 : BitVec 32 := 512#32
  let c1_i32_14 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_0 : BitVec 32 := 2#32
  let v4 : BitVec 32 := Scalar.remsi v2 c2_i32_0
  let c2_i32 : BitVec 32 := 2#32
  let v3 : BitVec 32 := Scalar.divsi v2 c2_i32
  let v5 : BitVec 32 := Scalar.xori v4 v3
  let v24 : BitVec 32 := Scalar.subi c1_i32_14 v5
  let c256_i32_15 : BitVec 32 := 256#32
  let v25 : BitVec 32 := Scalar.muli v24 c256_i32_15
  let v26 : BitVec 32 := Scalar.addi c512_i32_16 v25
  let c2_i32_532 : BitVec 32 := 2#32
  let c1_i32_531 : BitVec 32 := 1#32
  let v704 : BitVec 32 := Scalar.subi c1_i32_531 v3
  let v705 : BitVec 32 := Scalar.muli c2_i32_532 v704
  let v706 : BitVec 32 := Scalar.addi v705 c2_i32_533
  let c4_i32_534 : BitVec 32 := 4#32
  let v707 : BitVec 32 := Scalar.remsi v706 c4_i32_534
  let c64_i32_535 : BitVec 32 := 64#32
  let v708 : BitVec 32 := Scalar.muli v707 c64_i32_535
  let v718 : BitVec 32 := Scalar.addi v26 v708
  let v719 : Index := Scalar.indexCast v718
  let c0_544 : Index := 0#32
  ![v719.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Common.lean ====
/-
The names the proof is written in: the two sides of the result, the twenty-four transfers of a device, the
device at the other end of a link, the buffers and the rows each transfer reads and writes.

A device computes one fourth of the contraction of the whole product and the four parts are summed over two
links. The rows of the result fall into two halves (the SIDES), each halved again into the rows a device keeps
and the rows it sends first. Side `false` sends first over the link to device `3 - d` (link `false`) and then
over the link to device `d xor 1` (link `true`); side `true` the other way round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL.Sem

variable {F : FTy → Type} [FloatOps F]

/-! ## The transfers -/

/-- The transfers of one side of one device, each of one slab of 64 rows. -/
inductive Slot where
  /-- a slab of the product's rows this device sends away, over the side's first link -/
  | first (k : Fin 4)
  /-- the sum of two devices' slabs, over the side's second link -/
  | second (v : Fin 2)
  /-- a finished slab, over the second link -/
  | third (v : Fin 2)
  /-- the same finished slab, over the first link -/
  | back (v : Fin 2)
  /-- the finished slab received over the second link, passed on over the first -/
  | pass (v : Fin 2)
  deriving DecidableEq

/-- The slots in the order of their semaphores. -/
def slots : List Slot :=
  [.first 0, .first 1, .first 2, .first 3, .second 0, .second 1, .third 0, .third 1, .back 0, .back 1, .pass 0, .pass 1]

instance : Fintype Slot := ⟨slots.toFinset, fun j => by
  rcases j with k | k | k | k | k <;> revert k <;> decide⟩

/-- A transfer of a device: its side and its slot. -/
abbrev Xfer : Type := Bool × Slot

set_option backward.proofsInPublic true in
/-- The slot's place in the semaphore arrays. -/
def Slot.num : Slot → Fin 12
  | .first k => ⟨k.val, by omega⟩
  | .second v => ⟨4 + v.val, by omega⟩
  | .third v => ⟨6 + v.val, by omega⟩
  | .back v => ⟨8 + v.val, by omega⟩
  | .pass v => ⟨10 + v.val, by omega⟩

/-- The link a transfer travels over: the side's second link for `second` and `third`, its first for the others. -/
def link (s : Bool) : Slot → Bool
  | .first _ => s
  | .second _ => !s
  | .third _ => !s
  | .back _ => s
  | .pass _ => s

set_option backward.proofsInPublic true in
/-- The first and last two of four slabs. -/
def lo (v : Fin 2) : Fin 4 := ⟨v.val, by omega⟩
set_option backward.proofsInPublic true in
def hi (v : Fin 2) : Fin 4 := ⟨2 + v.val, by omega⟩

/-! ## The other end of a link -/

/-- The device at the other end of link `l`, as the kernel computes it. -/
def across (l : Bool) (d : Dev nD) : Dev nD := match l with
  | false => ⟨k0_dev3 d, k0_dev3_lt d⟩
  | true => ⟨k0_dev4 d, k0_dev4_lt d⟩

theorem across_across (l : Bool) (d : Dev nD) : across l (across l d) = d := by revert l d; decide +kernel
theorem across_comm (l l' : Bool) (d : Dev nD) : across l (across l' d) = across l' (across l d) := by revert l l' d; decide +kernel
theorem across_ne (d : Dev nD) : across false d ≠ across true d := by revert d; decide +kernel

/-- Where transfer `t` of a device goes; and where the transfer `t` it receives comes from. -/
abbrev peer (t : Xfer) (d : Dev nD) : Dev nD := across (link t.1 t.2) d

theorem peer_peer (t : Xfer) (d : Dev nD) : peer t (peer t d) = d := across_across _ d

/-! ## The buffers -/

abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0
abbrev cM : Memref sig .tc .vmem S512x1024 .bf16 := Memref.whole cc0_scratch0

/-- The slabs of side `s` sent first, and where the first link lands them. -/
def stgOne (s : Bool) : Memref sig .tc .vmem S256x1024 .bf16 := match s with
  | false => Memref.whole cc0_scratch1 | true => Memref.whole cc0_scratch8
def bufOne (s : Bool) : Memref sig .tc .vmem S256x1024 .bf16 := match s with
  | false => Memref.whole cc0_scratch2 | true => Memref.whole cc0_scratch9
def stgTwo (s : Bool) : Memref sig .tc .vmem S128x1024 .bf16 := match s with
  | false => Memref.whole cc0_scratch3 | true => Memref.whole cc0_scratch10
def bufTwo (s : Bool) : Memref sig .tc .vmem S128x1024 .bf16 := match s with
  | false => Memref.whole cc0_scratch4 | true => Memref.whole cc0_scratch11
def stgThree (s : Bool) : Memref sig .tc .vmem S128x1024 .bf16 := match s with
  | false => Memref.whole cc0_scratch5 | true => Memref.whole cc0_scratch12
def bufThree (s : Bool) : Memref sig .tc .vmem S128x1024 .bf16 := match s with
  | false => Memref.whole cc0_scratch6 | true => Memref.whole cc0_scratch13
def bufFour (s : Bool) : Memref sig .tc .vmem S256x1024 .bf16 := match s with
  | false => Memref.whole cc0_scratch7 | true => Memref.whole cc0_scratch14

theorem stgOne_whole (s : Bool) : (stgOne s).IsWhole := by cases s <;> exact Memref.isWhole_whole _
theorem bufOne_whole (s : Bool) : (bufOne s).IsWhole := by cases s <;> exact Memref.isWhole_whole _
theorem stgTwo_whole (s : Bool) : (stgTwo s).IsWhole := by cases s <;> exact Memref.isWhole_whole _
theorem bufTwo_whole (s : Bool) : (bufTwo s).IsWhole := by cases s <;> exact Memref.isWhole_whole _
theorem stgThree_whole (s : Bool) : (stgThree s).IsWhole := by cases s <;> exact Memref.isWhole_whole _
theorem bufThree_whole (s : Bool) : (bufThree s).IsWhole := by cases s <;> exact Memref.isWhole_whole _
theorem bufFour_whole (s : Bool) : (bufFour s).IsWhole := by cases s <;> exact Memref.isWhole_whole _

/-! ## The rows -/

/-- Where slab `k` of side `s` lies in a buffer of 256 rows: as a load or store names it, -/
def slabOff (s : Bool) (d : Dev nD) (k : Fin 4) : Fin 2 → ℕ := match s with
  | false => k0_off2 d (BitVec.ofNat 32 k.val) | true => k0_off5 d (BitVec.ofNat 32 k.val)
/-- and as a transfer names it. -/
def sliceOff (s : Bool) (d : Dev nD) (k : Fin 4) : Fin 2 → ℕ := match s with
  | false => k0_off3 d (BitVec.ofNat 32 k.val) | true => k0_off6 d (BitVec.ofNat 32 k.val)
/-- Where the rows of slab `k` sent first lie in the left factor. -/
def sentOff (s : Bool) (d : Dev nD) (k : Fin 4) : Fin 2 → ℕ := match s with
  | false => k0_off1 d (BitVec.ofNat 32 k.val) | true => k0_off4 d (BitVec.ofNat 32 k.val)
/-- Where the 256 kept rows lie in the left factor, and in the result. -/
def keepOff (s : Bool) (d : Dev nD) : Fin 2 → ℕ := match s with | false => k0_off7 d | true => k0_off9 d
def bigOff (s : Bool) (d : Dev nD) : Fin 2 → ℕ := match s with | false => k0_off8 d | true => k0_off10 d
/-- Where slab `k` of the kept rows, and of the rows sent first, lies in the result. -/
def outKeepOff (s : Bool) (d : Dev nD) (k : Fin 4) : Fin 2 → ℕ := match s with
  | false => k0_off11 d (BitVec.ofNat 32 k.val) | true => k0_off12 d (BitVec.ofNat 32 k.val)
def outSentOff (s : Bool) (d : Dev nD) (k : Fin 4) : Fin 2 → ℕ := match s with
  | false => k0_off13 d (BitVec.ofNat 32 k.val) | true => k0_off14 d (BitVec.ofNat 32 k.val)

theorem slabOff_inb (s : Bool) (d : Dev nD) (k : Fin 4) : ∀ a, slabOff s d k a + S64x1024.size a ≤ S256x1024.size a := match s with
  | false => k0_off2_inb d k | true => k0_off5_inb d k
theorem sliceOff_inb (s : Bool) (d : Dev nD) (k : Fin 4) : ∀ a, sliceOff s d k a + S64x1024.size a ≤ S256x1024.size a := match s with
  | false => k0_off3_inb d k | true => k0_off6_inb d k
theorem sentOff_inb (s : Bool) (d : Dev nD) (k : Fin 4) : ∀ a, sentOff s d k a + S64x512.size a ≤ S1024x512.size a := match s with
  | false => k0_off1_inb d k | true => k0_off4_inb d k
theorem keepOff_inb (s : Bool) (d : Dev nD) : ∀ a, keepOff s d a + S256x512.size a ≤ S1024x512.size a := match s with
  | false => k0_off7_inb d | true => k0_off9_inb d
theorem bigOff_inb (s : Bool) (d : Dev nD) : ∀ a, bigOff s d a + S256x1024.size a ≤ S1024x1024.size a := match s with
  | false => k0_off8_inb d | true => k0_off10_inb d
theorem outKeepOff_inb (s : Bool) (d : Dev nD) (k : Fin 4) : ∀ a, outKeepOff s d k a + S64x1024.size a ≤ S1024x1024.size a := match s with
  | false => k0_off11_inb d k | true => k0_off12_inb d k
theorem outSentOff_inb (s : Bool) (d : Dev nD) (k : Fin 4) : ∀ a, outSentOff s d k a + S64x1024.size a ≤ S1024x1024.size a := match s with
  | false => k0_off13_inb d k | true => k0_off14_inb d k

abbrev slabR (s : Bool) (d : Dev nD) (k : Fin 4) : Rect S256x1024 := Rect.unit (s := S256x1024) (slabOff s d k) S64x1024.size (slabOff_inb s d k)
abbrev sliceR (s : Bool) (d : Dev nD) (k : Fin 4) : Rect S256x1024 := Rect.unit (s := S256x1024) (sliceOff s d k) S64x1024.size (sliceOff_inb s d k)
abbrev sentR (s : Bool) (d : Dev nD) (k : Fin 4) : Rect S1024x512 := Rect.unit (s := S1024x512) (sentOff s d k) S64x512.size (sentOff_inb s d k)
abbrev keepR (s : Bool) (d : Dev nD) : Rect S1024x512 := Rect.unit (s := S1024x512) (keepOff s d) S256x512.size (keepOff_inb s d)
abbrev bigR (s : Bool) (d : Dev nD) : Rect S1024x1024 := Rect.unit (s := S1024x1024) (bigOff s d) S256x1024.size (bigOff_inb s d)
abbrev outKeepR (s : Bool) (d : Dev nD) (k : Fin 4) : Rect S1024x1024 := Rect.unit (s := S1024x1024) (outKeepOff s d k) S64x1024.size (outKeepOff_inb s d k)
abbrev outSentR (s : Bool) (d : Dev nD) (k : Fin 4) : Rect S1024x1024 := Rect.unit (s := S1024x1024) (outSentOff s d k) S64x1024.size (outSentOff_inb s d k)

/-- The halves of a buffer of 128 rows. -/
def halfOff (v : Fin 2) : Fin 2 → ℕ := match v with | 0 => ![0, 0] | 1 => ![64, 0]
theorem halfOff_inb (v : Fin 2) : ∀ a, halfOff v a + S64x1024.size a ≤ S128x1024.size a := match v with
  | 0 => inb_S128x1024_S64x1024_0_0 | 1 => inb_S128x1024_S64x1024_64_0
abbrev halfR (v : Fin 2) : Rect S128x1024 := Rect.unit (s := S128x1024) (halfOff v) S64x1024.size (halfOff_inb v)

theorem sliceOff_words (s : Bool) (d : Dev nD) (k : Fin 4) : (sliceR s d k).WholeWords (EltTy.packing .bf16) := match s with
  | false => k0_off3_wordsbf16 d k | true => k0_off6_wordsbf16 d k
theorem slabOff_packed (s : Bool) (d : Dev nD) (k : Fin 4) : (slabR s d k).PackedRows (EltTy.packing .bf16) := match s with
  | false => k0_off2_packedbf16 d k | true => k0_off5_packedbf16 d k
theorem halfOff_words (v : Fin 2) : (halfR v).WholeWords (EltTy.packing .bf16) := match v with
  | 0 => wordsbf16_S128x1024_S64x1024_0_0 | 1 => wordsbf16_S128x1024_S64x1024_64_0
theorem halfOff_packed (v : Fin 2) : (halfR v).PackedRows (EltTy.packing .bf16) := match v with
  | 0 => packedbf16_S128x1024_S64x1024_0_0 | 1 => packedbf16_S128x1024_S64x1024_64_0

/-- Slab `k` of a buffer of 256 rows, as device `d` orders them; half `v` of a buffer of 128 rows. -/
abbrev slab (b : Memref sig .tc .vmem S256x1024 .bf16) (s : Bool) (d : Dev nD) (k : Fin 4) : Memref sig .tc .vmem S64x1024 .bf16 :=
  b.slice (sliceR s d k) (fun _ => rfl)
abbrev half (b : Memref sig .tc .vmem S128x1024 .bf16) (v : Fin 2) : Memref sig .tc .vmem S64x1024 .bf16 :=
  b.slice (halfR v) (fun _ => rfl)

/-- What transfer `(s, j)` of device `d` reads, and where it lands at its peer. -/
def srcOf (s : Bool) (d : Dev nD) : Slot → Memref sig .tc .vmem S64x1024 .bf16
  | .first k => slab (stgOne s) s d k
  | .second v => half (stgTwo s) v
  | .third v => half (stgThree s) v
  | .back v => half (stgThree s) v
  | .pass v => half (bufThree s) v
def dstOf (s : Bool) (d : Dev nD) : Slot → Memref sig .tc .vmem S64x1024 .bf16
  | .first k => slab (bufOne s) s d k
  | .second v => half (bufTwo s) v
  | .third v => half (bufThree s) v
  | .back v => slab (bufFour s) s d (hi v)
  | .pass v => slab (bufFour s) s d (lo v)

theorem srcOf_words (s : Bool) (d : Dev nD) (j : Slot) : (srcOf s d j).view.WordExact := match j with
  | .first k => (stgOne_whole s).wordExact_slice rfl _ (sliceOff_words s d k)
  | .second v => (stgTwo_whole s).wordExact_slice rfl _ (halfOff_words v)
  | .third v => (stgThree_whole s).wordExact_slice rfl _ (halfOff_words v)
  | .back v => (stgThree_whole s).wordExact_slice rfl _ (halfOff_words v)
  | .pass v => (bufThree_whole s).wordExact_slice rfl _ (halfOff_words v)
theorem dstOf_words (s : Bool) (d : Dev nD) (j : Slot) : (dstOf s d j).view.WordExact := match j with
  | .first k => (bufOne_whole s).wordExact_slice rfl _ (sliceOff_words s d k)
  | .second v => (bufTwo_whole s).wordExact_slice rfl _ (halfOff_words v)
  | .third v => (bufThree_whole s).wordExact_slice rfl _ (halfOff_words v)
  | .back v => (bufFour_whole s).wordExact_slice rfl _ (sliceOff_words s d (hi v))
  | .pass v => (bufFour_whole s).wordExact_slice rfl _ (sliceOff_words s d (lo v))

/-! ## The semaphores -/

/-- The semaphore both neighbours raise before the first transfer. -/
abbrev barS : Sem sig := (SemArray.scalar (sig.barrier 0 rfl) : Sems sig S_).sem

theorem inb_sem (n : Fin 12) : ∀ a, (![n.val] : Fin 1 → ℕ) a + S1.size a ≤ S12.size a := by revert n; decide
/-- Cell `n` of an array of twelve semaphores. -/
abbrev semAt (q : DmaSems sig S12) (n : Fin 12) : DmaSem sig :=
  ((q.slice (Rect.unit (s := S12) ![n.val] S1.size (inb_sem n))).squeeze S_ squeezes_S1_S_).sem

/-- The semaphore that says the source of transfer `(s, j)` has been read, and the one that says it has landed. -/
def sendS (s : Bool) (j : Slot) : DmaSem sig := match link s j with
  | false => semAt cc0_scratch15 j.num | true => semAt cc0_scratch17 j.num
def recvS (s : Bool) (j : Slot) : DmaSem sig := match link s j with
  | false => semAt cc0_scratch16 j.num | true => semAt cc0_scratch18 j.num

end Cert.Exchange
-- ==== Proof.Program.lean ====
/-
The kernel's program as a chain of STAGES, each stated once for both sides and every slab, and the equation of
the kernel's body with that chain.
-/
module

public import proofs.«01_k».proof.Proof.Common

@[expose] public section

noncomputable section

namespace Cert.Exchange

open Cert.KernelIdeal Cert.KernelIdeal.Gen
open Idealize.ShloMosaic
open Idealize.ShloMosaic.TcCoe
open Idealize.SL.Sem

variable {F : FTy → Type} [FloatOps F]

/-- A program of one device's core. -/
abbrev P (F : FTy → Type) [FloatOps F] (α : Type) : Type 1 := Prog (TpuEff nD τ sig (Elt F) Λ₀ .tc) α

/-! ## The single steps -/

/-- Start transfer `(s, j)`. -/
def send (d : Dev nD) (s : Bool) (j : Slot) : P F PUnit :=
  Prog.lift (.enqueueDma (srcOf s d j) (.remote (Dev.tc (peer (s, j) d)) (dstOf s d j) (.dma (sendS s j))) (.dma (recvS s j))
    (srcOf_words s d j) (dstOf_words s d j) ⟨⟨rfl, Or.inl rfl⟩, trivial⟩)

/-- The source a wait for an arrival names: only its size matters. -/
def namedSrc (s : Bool) (d : Dev nD) : Slot → Memref sig .tc .vmem S64x1024 .bf16
  | .first k => slab (stgOne s) s d k
  | .second v => half (stgTwo s) v
  | .third v => half (stgThree s) v
  | .back _ => half (stgThree s) 0
  | .pass _ => half (stgThree s) 0
theorem namedSrc_words (s : Bool) (d : Dev nD) (j : Slot) : (namedSrc s d j).view.WordExact := match j with
  | .first k => (stgOne_whole s).wordExact_slice rfl _ (sliceOff_words s d k)
  | .second v => (stgTwo_whole s).wordExact_slice rfl _ (halfOff_words v)
  | .third v => (stgThree_whole s).wordExact_slice rfl _ (halfOff_words v)
  | .back v => (stgThree_whole s).wordExact_slice rfl _ (halfOff_words 0)
  | .pass v => (stgThree_whole s).wordExact_slice rfl _ (halfOff_words 0)

/-- Wait until the peer's transfer `(s, j)` has landed here. -/
def awaitRecv (d : Dev nD) (s : Bool) (j : Slot) : P F PUnit :=
  Prog.lift (.waitDma2 (recvS s j) (namedSrc s d j) (dstOf s d j) (namedSrc_words s d j) (dstOf_words s d j))

/-- The first slab of a buffer of 256 rows: the last waits name it, for its size. -/
abbrev top (b : Memref sig .tc .vmem S256x1024 .bf16) : Memref sig .tc .vmem S64x1024 .bf16 :=
  b.slice (Rect.unit (s := S256x1024) ![0, 0] S64x1024.size inb_S256x1024_S64x1024_0_0) (fun _ => rfl)

/-- Wait until the source of the transfer in slot `j` of link `l` has been read. -/
def awaitSent (l : Bool) (j : Slot) : P F PUnit :=
  Prog.lift (.waitDma2 (sendS (link l j) j) (top (bufOne l)) (top (stgOne l))
    ((bufOne_whole l).wordExact_slice rfl _ wordsbf16_S256x1024_S64x1024_0_0)
    ((stgOne_whole l).wordExact_slice rfl _ wordsbf16_S256x1024_S64x1024_0_0))

/-- Reads. -/
def loadFactor : P F ((S512x1024 : Shape).Idx → Elt F .bf16) :=
  Prog.lift (.load cM (Rect.unit (s := S512x1024) ![0, 0] S512x1024.size inb_S512x1024_S512x1024_0_0).toLoadRect (View.loadsAt_vmem h_S512x1024))
def loadSlab (b : Memref sig .tc .vmem S256x1024 .bf16) (d : Dev nD) (s : Bool) (k : Fin 4) : P F ((S64x1024 : Shape).Idx → Elt F .bf16) :=
  Prog.lift (.load b (slabR s d k).toLoadRect (View.loadsAt_vmem h_S64x1024))
def loadHalf (b : Memref sig .tc .vmem S128x1024 .bf16) (v : Fin 2) : P F ((S64x1024 : Shape).Idx → Elt F .bf16) :=
  Prog.lift (.load b (halfR v).toLoadRect (View.loadsAt_vmem h_S64x1024))
def loadOut (d : Dev nD) (s : Bool) (k : Fin 4) : P F ((S64x1024 : Shape).Idx → Elt F .f32) :=
  Prog.lift (.load oM (outKeepR s d k).toLoadRect (View.loadsAt_vmem h_S64x1024))

/-- Writes. -/
def storeHalf (b : Memref sig .tc .vmem S128x1024 .bf16) (hb : b.IsWhole) (v : Fin 2) (w : (S64x1024 : Shape).Idx → Elt F .bf16) : P F PUnit :=
  Prog.lift (.store b (halfR v) w Finset.univ (View.stores_vmem h_S64x1024 (hb.storeExact_slice rfl _ (halfOff_packed v)) (fun _ => rfl)) (.inl rfl))
def storeOut (d : Dev nD) (s : Bool) (k : Fin 4) (w : (S64x1024 : Shape).Idx → Elt F .f32) : P F PUnit :=
  Prog.lift (.store oM (outKeepR s d k) w Finset.univ (View.stores_vmem_bits_univ h_S64x1024 rfl) (.inl rfl))

/-! ## The stages -/

/-- Greet both neighbours, wait for their greetings, and round the right factor into its buffer. -/
def opening (d : Dev nD) : P F PUnit := do
  semSignalWord (⟨k0_dev1 d, k0_dev1_lt d⟩ : Dev nD) barS 1#32
  semSignalWord (⟨k0_dev2 d, k0_dev2_lt d⟩ : Dev nD) barS 1#32
  semWaitWord barS 2#32
  let b ← Prog.lift (.load bM (Rect.unit (s := S512x1024) ![0, 0] S512x1024.size inb_S512x1024_S512x1024_0_0).toLoadRect (View.loadsAt_vmem h_S512x1024))
  let _ ← loadFactor
  Prog.lift (.store cM (Rect.unit (s := S512x1024) ![0, 0] S512x1024.size inb_S512x1024_S512x1024_0_0) (k0_pay1 b) Finset.univ
    (View.stores_vmem h_S512x1024 ((Memref.isWhole_whole cc0_scratch0).storeExact_slice rfl _ packedbf16_S512x1024_S512x1024_0_0) (fun _ => rfl)) (.inl rfl))

/-- Multiply a slab of the rows sent first and send it. -/
def firstStage (d : Dev nD) (s : Bool) (k : Fin 4) : P F PUnit := do
  let a ← Prog.lift (.load aM (sentR s d k).toLoadRect (View.loadsAt_vmem h_S64x512))
  let b ← loadFactor
  let _ ← loadSlab (stgOne s) d s k
  Prog.lift (.store (stgOne s) (slabR s d k) (k0_pay2 a b) Finset.univ
    (View.stores_vmem h_S64x1024 ((stgOne_whole s).storeExact_slice rfl _ (slabOff_packed s d k)) (fun _ => rfl)) (.inl rfl))
  send d s (.first k)

/-- Multiply the kept rows into the result's buffer. -/
def keepStage (d : Dev nD) (s : Bool) : P F PUnit := do
  let a ← Prog.lift (.load aM (keepR s d).toLoadRect (View.loadsAt_vmem h_S256x512))
  let b ← loadFactor
  let _ ← Prog.lift (.load oM (bigR s d).toLoadRect (View.loadsAt_vmem h_S256x1024))
  Prog.lift (.store oM (bigR s d) (k0_pay11 a b) Finset.univ (View.stores_vmem_bits_univ h_S256x1024 rfl) (.inl rfl))

/-- Receive a slab over the first link, add it, and send the sum over the second. -/
def secondStage (d : Dev nD) (s : Bool) (v : Fin 2) : P F PUnit := do
  awaitRecv d s (.first (lo v))
  let o ← loadOut d s (lo v)
  let r ← loadSlab (bufOne s) d s (lo v)
  let _ ← loadHalf (stgTwo s) v
  storeHalf (stgTwo s) (stgTwo_whole s) v (k0_pay14 o r)
  send d s (.second v)

/-- Receive the sum over the second link, finish a slab of the result, and send it over both links. -/
def thirdStage (d : Dev nD) (s : Bool) (v : Fin 2) : P F PUnit := do
  awaitRecv d s (.second v)
  let o ← loadOut d s (hi v)
  let r ← loadSlab (bufOne s) d s (hi v)
  let t ← loadHalf (bufTwo s) v
  let _ ← loadOut d s (hi v)
  storeOut d s (hi v) (k0_pay22 o r t)
  let _ ← loadHalf (stgThree s) v
  storeHalf (stgThree s) (stgThree_whole s) v (k0_pay23 o r t)
  send d s (.third v)
  send d s (.back v)

/-- Receive a finished slab over the second link, pass it on over the first, and write it out. -/
def passStage (d : Dev nD) (s : Bool) (v : Fin 2) : P F PUnit := do
  awaitRecv d s (.third v)
  send d s (.pass v)
  let r ← loadHalf (bufThree s) v
  let _ ← loadOut d s (lo v)
  storeOut d s (lo v) (k0_pay29 r)

/-- Receive a finished slab over the first link and write it out. -/
def lastStage (d : Dev nD) (s : Bool) (j : Slot) (k : Fin 4) : P F PUnit := do
  awaitRecv d s j
  let r ← loadSlab (bufFour s) d s k
  let _ ← Prog.lift (.load oM (outSentR s d k).toLoadRect (View.loadsAt_vmem h_S64x1024))
  Prog.lift (.store oM (outSentR s d k) (k0_pay29 r) Finset.univ (View.stores_vmem_bits_univ h_S64x1024 rfl) (.inl rfl))

/-- A stage at every member of a list, in its order. -/
def run {ι : Type} (f : ι → P F PUnit) : List ι → P F PUnit
  | [] => pure ⟨⟩
  | i :: l => do
    f i
    run f l

/-- Both sides in turn at four slabs, at two slabs; the slots of both links in turn. -/
def sides₄ : List (Bool × Fin 4) := [(false, 0), (true, 0), (false, 1), (true, 1), (false, 2), (true, 2), (false, 3), (true, 3)]
def sides₂ : List (Bool × Fin 2) := [(false, 0), (true, 0), (false, 1), (true, 1)]
def sent : List (Bool × Slot) := slots.flatMap fun j => [(false, j), (true, j)]

/-- The whole of a device's program. -/
def chain (d : Dev nD) : P F PUnit := do
  opening d
  run (fun x => firstStage d x.1 x.2) sides₄
  run (fun s => keepStage d s) [false, true]
  run (fun x => secondStage d x.1 x.2) sides₂
  run (fun x => awaitRecv d x.1 (.first (hi x.2))) sides₂
  run (fun x => thirdStage d x.1 x.2) sides₂
  run (fun x => passStage d x.1 x.2) sides₂
  run (fun x => lastStage d x.1 (.back x.2) (hi x.2)) sides₂
  run (fun x => lastStage d x.1 (.pass x.2) (lo x.2)) sides₂
  run (fun x => awaitSent x.1 x.2) sent

/-- The kernel's body at its buffers. -/
abbrev bodyAt (F : FTy → Type) [FloatOps F] : P F PUnit :=
  cc0_body aM (Memref.isWhole_whole _) bM (Memref.isWhole_whole _) oM (Memref.isWhole_whole _) cM (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    cc0_scratch15 cc0_scratch16 cc0_scratch17 cc0_scratch18

/-- The body is the chain, at the device that runs it. -/
theorem body_eq_chain : bodyAt F = Prog.op .deviceId (fun d => chain d) := by
  sl_kernel_rfl

end Cert.Exchange
-- ==== Proof.Protocol.lean ====
/-
The protocol: what every buffer holds at every moment, what each semaphore stands for, what a device owes its
peers and in which order it pays.

Every transfer has two semaphores, one at the sender (the source may be used again) and one at the receiver (the
slab has landed); the barrier of a device is raised by both neighbours, each handing over the buffers at its own
end that this device's transfers over their link land in.
-/
module

public import proofs.«01_k».proof.Proof.Program

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The contents -/

/-- A slab of 64 rows, and what a device holds of each factor. -/
abbrev Slab (F : FTy → Type) [FloatOps F] (e : EltTy) : Type := (S64x1024 : Shape).Idx → Elt F e
abbrev Left (F : FTy → Type) [FloatOps F] : Type := (S1024x512 : Shape).Idx → Elt F .f32
abbrev Right (F : FTy → Type) [FloatOps F] : Type := (S512x1024 : Shape).Idx → Elt F .f32

section Contents
variable (A : Dev nD → Left F) (B : Dev nD → Right F)

/-- The right factor, rounded. -/
def factor (d : Dev nD) : (S512x1024 : Shape).Idx → Elt F .bf16 := k0_pay1 (B d)
/-- The first product of slab `k`. -/
def first (s : Bool) (d : Dev nD) (k : Fin 4) : Slab F .bf16 := k0_pay2 (fun j => A d ((sentR s d k).emb j)) (factor B d)
/-- The product of the kept rows, and its slab `k`. -/
def big (s : Bool) (d : Dev nD) : (S256x1024 : Shape).Idx → Elt F .f32 := k0_pay11 (fun j => A d ((keepR s d).emb j)) (factor B d)
def own (s : Bool) (d : Dev nD) (k : Fin 4) : Slab F .f32 := fun j => big A B s d ((slabR s d k).emb j)
/-- The sum of the own slab and the slab received over the first link. -/
def second (s : Bool) (d : Dev nD) (v : Fin 2) : Slab F .bf16 := k0_pay14 (own A B s d (lo v)) (first A B s (across s d) (lo v))
/-- The finished slab, and its rounding. -/
def done (s : Bool) (d : Dev nD) (v : Fin 2) : Slab F .f32 :=
  k0_pay22 (own A B s d (hi v)) (first A B s (across s d) (hi v)) (second A B s (across (!s) d) v)
def third (s : Bool) (d : Dev nD) (v : Fin 2) : Slab F .bf16 :=
  k0_pay23 (own A B s d (hi v)) (first A B s (across s d) (hi v)) (second A B s (across (!s) d) v)

/-- What transfer `(s, j)` of device `d` carries. -/
def val (s : Bool) (d : Dev nD) : Slot → Slab F .bf16
  | .first k => first A B s d k
  | .second v => second A B s d v
  | .third v => third A B s d v
  | .back v => third A B s d v
  | .pass v => third A B s (across (!s) d) v

end Contents

/-! ## The cells -/

/-- The semaphores of the protocol: the barrier (`none`); of each transfer the sender's (`false`) and the receiver's (`true`). -/
abbrev Cell : Type := Option (Bool × Bool × Slot)

def csem : Cell → SemLoc sig
  | none => .reg barS
  | some (false, s, j) => .dma (sendS s j)
  | some (true, s, j) => .dma (recvS s j)

def cells : List Cell :=
  none :: ([false, true].flatMap fun r => [false, true].flatMap fun s => slots.map fun j => some (r, s, j))

/-- The cell a semaphore is, if any. -/
def which (sm : SemLoc sig) : Option Cell := cells.find? fun k => decide (csem k = sm)

theorem which_csem (k : Cell) : which (csem k) = some k := by revert k; decide +kernel
theorem csem_injective : Function.Injective csem := fun k k' h => by
  have := which_csem k; rw [h, which_csem k'] at this; exact (Option.some.inj this).symm

abbrev cell (c : Dev nD) (k : Cell) : GSem nD τ sig := ((c : Thread nD τ), csem k)
abbrev barCell (c : Dev nD) : GSem nD τ sig := cell c none
abbrev sendCell (c : Dev nD) (t : Xfer) : GSem nD τ sig := cell c (some (false, t.1, t.2))
abbrev recvCell (c : Dev nD) (t : Xfer) : GSem nD τ sig := cell c (some (true, t.1, t.2))

/-- The credit of one slab. -/
abbrev N : ℕ := (half (stgTwo false) 0).view.dmaCredit
theorem N_pos : 0 < N := View.dmaCredit_pos _ (by decide)
theorem credit_dst (s : Bool) (d : Dev nD) (j : Slot) : (dstOf s d j).view.dmaCredit = N := by
  cases s <;> cases j <;> rfl
theorem credit_top (l : Bool) : (top (stgOne l)).view.dmaCredit = N := by cases l <;> rfl

/-! ## The schedule -/

/-- The part of its source a transfer borrows: the finished slab is read by two transfers at once, and the slab passed on
    is read by the device too. -/
def lent : Slot → PosShare TreeShare
  | .first _ => fullShare | .second _ => fullShare | .third _ => fullShare.left | .back _ => fullShare.right | .pass _ => fullShare.left

/-- The slab transfer `(s, j)` lands in at `c`, with any contents. -/
def landing (c : Dev nD) (s : Bool) (j : Slot) : sProp 𝕄 := iprop(∃ X, owns (c : Thread nD τ) (dstOf s c j) fullShare X)

instance landing_storable (c : Dev nD) (s : Bool) (j : Slot) : BI.Storable (upEmb : UEmb _ 𝕄) (landing (F := F) c s j) := by
  unfold landing; infer_instance

section Sched
variable (A : Dev nD → Left F) (B : Dev nD → Right F)

/-- What the neighbour over link `l` hands to `c` when it greets: where `c`'s transfers over that link land. -/
def greet (c : Dev nD) (l : Bool) : sProp 𝕄 := bigSep Finset.univ fun j : Slot => landing (across l c) (link l j) j

/-- What a transfer's semaphore stands for: at the sender its source, at the receiver the slab landed. -/
def xferPay (c : Dev nD) : Bool → Bool → Slot → sProp 𝕄
  | false, s, j => owns (c : Thread nD τ) (srcOf s c j) (lent j) (val A B s c j)
  | true, s, j => owns (c : Thread nD τ) (dstOf s c j) fullShare (val A B s (peer (s, j) c) j)

instance greet_storable (c : Dev nD) (l : Bool) : BI.Storable (upEmb : UEmb _ 𝕄) (greet (F := F) c l) := by
  unfold greet; infer_instance
instance xferPay_storable (c : Dev nD) (r s : Bool) (j : Slot) : BI.Storable (upEmb : UEmb _ 𝕄) (xferPay A B c r s j) := by
  cases r <;> (unfold xferPay; infer_instance)

/-- What a cell's duty hands over. -/
def cellPay (c : Dev nD) (k : Cell) (d : Bool) : sProp 𝕄 := match k with
  | none => greet c d
  | some (r, s, j) => xferPay A B c r s j
def cellDuties : Cell → Finset Bool | none => Finset.univ | some _ => {false}
def cellAmount : Cell → ℕ | none => 1 | some _ => N

/-- One round: the barrier has two duties of one unit, one from each neighbour; a transfer's semaphore one of a slab's credit. -/
def Rd : Rounds.Schedule (GSem nD τ sig) Bool 𝕄 where
  duties g r := if r = 0 ∧ g.1.2 = .tc then (match which g.2 with | some k => cellDuties k | none => ∅) else ∅
  unitless _ := False
  amount g _ _ := match which g.2 with | some k => cellAmount k | none => 1
  payload g _ d := match which g.2 with | some k => cellPay A B g.1.1 k d | none => iprop(emp)
  amount_pos g _ _ _ := by
    split
    · rename_i k _; cases k
      · exact Nat.one_pos
      · exact N_pos
    · exact Nat.one_pos

instance Rd_storable (g : GSem nD τ sig) (r : ℕ) (d : Bool) : BI.Storable (upEmb : UEmb _ 𝕄) ((Rd A B).payload g r d) := by
  dsimp only [Rd]
  split
  · rename_i k _
    rcases k with _ | ⟨r, s, j⟩
    · unfold cellPay; infer_instance
    · unfold cellPay; infer_instance
  · infer_instance

variable (c : Dev nD) (k : Cell)

theorem duties_cell : (Rd A B).duties (cell c k) 0 = cellDuties k := by
  dsimp only [Rd]; rw [if_pos ⟨rfl, rfl⟩, which_csem]
theorem duties_later (g : GSem nD τ sig) : ∀ r, 1 ≤ r → (Rd A B).duties g r = ∅ :=
  fun r hr => by dsimp only [Rd]; rw [if_neg fun h => by omega]
theorem amount_cell (d : Bool) : (Rd A B).amount (cell c k) 0 d = cellAmount k := by dsimp only [Rd]; rw [which_csem]
theorem payload_cell (d : Bool) : (Rd A B).payload (cell c k) 0 d = cellPay A B c k d := by dsimp only [Rd]; rw [which_csem]

theorem expect_bar : (Rd A B).expect (barCell c) 0 = 2 := by
  unfold Schedule.expect Schedule.amountOf
  rw [duties_cell, Finset.sum_congr rfl fun d _ => amount_cell A B c none d]; rfl
theorem expect_xfer (x : Bool × Bool × Slot) : (Rd A B).expect (cell c (some x)) 0 = N := by
  unfold Schedule.expect Schedule.amountOf
  rw [duties_cell]; dsimp only [cellDuties]; rw [Finset.sum_singleton, amount_cell]; rfl

theorem rest_bar : bigSep ((Rd A B).duties (barCell c) 0 \ ∅) (fun d => (Rd A B).payload (barCell c) 0 d)
    = iprop(greet c false ∗ greet c true) := by
  rw [Finset.sdiff_empty, duties_cell]
  dsimp only [cellDuties]
  rw [bigSep_univ_eq_bigSepL [false, true] (by decide) (by decide), bigSepL_cons_cons, bigSepL_singleton, payload_cell, payload_cell]
  rfl
theorem rest_xfer (r s : Bool) (j : Slot) :
    bigSep ((Rd A B).duties (cell c (some (r, s, j))) 0 \ ∅) (fun d => (Rd A B).payload (cell c (some (r, s, j))) 0 d) = xferPay A B c r s j := by
  rw [Finset.sdiff_empty, duties_cell]; dsimp only [cellDuties]; rw [bigSep_singleton, payload_cell]; rfl

end Sched

/-! ## What is owed, and the levels -/

/-- The transfers in the order a device starts them. -/
def order : List Xfer :=
  [(false, .first 0), (true, .first 0), (false, .first 1), (true, .first 1), (false, .first 2), (true, .first 2), (false, .first 3), (true, .first 3),
   (false, .second 0), (true, .second 0), (false, .second 1), (true, .second 1),
   (false, .third 0), (false, .back 0), (true, .third 0), (true, .back 0), (false, .third 1), (false, .back 1), (true, .third 1), (true, .back 1),
   (false, .pass 0), (true, .pass 0), (false, .pass 1), (true, .pass 1)]

/-- What a device still owes: the credits of the transfers not yet started. -/
def owedL (c : Dev nD) : List Xfer → CellTallies nD τ sig Unit
  | [] => 0
  | t :: l => owedL c l + tallyAt (recvCell (peer t c) t) () N

/-- At the start also the two greetings. -/
def owed₁ (c : Dev nD) : CellTallies nD τ sig Unit := owedL c order + tallyAt (barCell (across true c)) () 1
def owed₀ (c : Dev nD) : CellTallies nD τ sig Unit := owed₁ c + tallyAt (barCell (across false c)) () 1

/-- A transfer's place in the order. -/
def place (t : Xfer) : ℕ := order.idxOf t

def L (g : GSem nD τ sig) : Finset Unit := if g.1.2 = .tc then {()} else ∅
/-- The level of a cell: barriers 1, arrivals above in the order of the transfers, all else 0. -/
def cellLevel : Option Cell → ℕ
  | some none => 1
  | some (some (true, s, j)) => 2 + place (s, j)
  | _ => 0
def lv (g : GSem nD τ sig) (_ : Unit) : ℕ := cellLevel (which g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (cell c k) u = cellLevel (some k) := by unfold lv; rw [which_csem]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owedL_pos {c : Dev nD} {l : List Xfer} {g : GSem nD τ sig} {u : Unit} (h : 0 < owedL c l g u) : ∃ t ∈ l, g = recvCell (peer t c) t := by
  induction l with
  | nil => exact absurd h (Nat.lt_irrefl 0)
  | cons t l ih =>
    unfold owedL at h
    rw [Pi.add_apply, Finsupp.add_apply] at h
    rcases Nat.lt_or_ge 0 (owedL c l g u) with h' | h'
    · obtain ⟨t', ht', e⟩ := ih h'; exact ⟨t', List.mem_cons_of_mem _ ht', e⟩
    · rw [Nat.le_zero.mp h', Nat.zero_add] at h; exact ⟨t, List.mem_cons_self, tally_pos h⟩

theorem owed₀_pos {c : Dev nD} {g : GSem nD τ sig} {u : Unit} (h : 0 < owed₀ c g u) :
    (∃ t ∈ order, g = recvCell (peer t c) t) ∨ ∃ c', g = barCell c' := by
  unfold owed₀ owed₁ at h
  rw [Pi.add_apply, Finsupp.add_apply, Pi.add_apply, Finsupp.add_apply] at h
  rcases Nat.lt_or_ge 0 (owedL c order g u) with h' | h'
  · exact .inl (owedL_pos h')
  · rcases Nat.lt_or_ge 0 ((tallyAt (barCell (across true c)) () 1 : CellTallies nD τ sig Unit) g u) with h'' | h''
    · exact .inr ⟨_, tally_pos h''⟩
    · rw [Nat.le_zero.mp h', Nat.le_zero.mp h'', Nat.zero_add] at h; exact .inr ⟨_, tally_pos h⟩

/-- A wait at level `n` is safe while everything owed is above `n`. -/
theorem mayWait_of (c : Dev nD) (sm : SemLoc sig) (O : CellTallies nD τ sig Unit) (n : ℕ) (hsm : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- Waiting on cell `k` while the transfers of `l` are still to be started. -/
theorem mayWait_cell (c : Dev nD) (k : Cell) (l : List Xfer) (h : ∀ t ∈ l, cellLevel (some k) < 2 + place t) :
    (levAts L lv : sProp 𝕄) ⊢ MayWait (c : Thread nD τ) (csem k) () (owedL c l) :=
  mayWait_of c (csem k) _ (cellLevel (some k)) (le_of_eq (lv_cell c k ())) fun g u hg => by
    obtain ⟨t, ht, rfl⟩ := owedL_pos hg
    exact ⟨rfl, by rw [lv_cell]; exact h t ht⟩

/-- Waiting on a staging semaphore, at the start and at the end. -/
theorem mayWait_stage (c : Dev nD) (q : DmaSem sig) (hq : which (.dma q) = none) (O : CellTallies nD τ sig Unit) (hO : O = owed₀ c ∨ O = 0) :
    (levAts L lv : sProp 𝕄) ⊢ MayWait (c : Thread nD τ) (.dma q) () O :=
  mayWait_of c _ _ 0 (by unfold lv; dsimp only; rw [hq]; exact le_rfl) fun g u hg => by
    rcases hO with rfl | rfl
    · rcases owed₀_pos hg with ⟨t, _, rfl⟩ | ⟨c', rfl⟩
      · exact ⟨rfl, by rw [lv_cell]; exact Nat.lt_of_lt_of_le Nat.two_pos (Nat.le_add_right _ _)⟩
      · exact ⟨rfl, by rw [lv_cell]; exact Nat.one_pos⟩
    · exact absurd hg (Nat.lt_irrefl 0)

end Cert.Exchange
-- ==== Proof.Steps.lean ====
/-
The kernel's single effects at the protocol's buffers and semaphores: reading and writing a slab, starting a
transfer, and the waits.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s core runs program `p` to the assertion `Q`. -/
abbrev runs {α : Type} (c : Dev nD) (p : P F α) (Q : α → sProp 𝕄) : sProp 𝕄 :=
  wp frame (wpE (defs₀ (F := F)) 𝒱₀ (c : Thread nD τ) none) Set.univ p Q

/-! ## Slabs -/

/-- Slices at equal offsets are equal. -/
theorem slice_congr {sh : Shape} {e : EltTy} (b : Memref sig .tc .vmem sh e) {off off' size : Fin sh.rank → ℕ} (h : off = off')
    (p : ∀ a, off a + size a ≤ sh.size a) (p' : ∀ a, off' a + size a ≤ sh.size a) :
    b.slice (Rect.unit off size p) (fun _ => rfl) = b.slice (Rect.unit off' size p') (fun _ => rfl) := by
  subst h; rfl

theorem slabOff_eq (s : Bool) (d : Dev nD) (k : Fin 4) : slabOff s d k = sliceOff s d k := by revert s d k; decide +kernel
theorem sliceOff_peer (s : Bool) (d : Dev nD) (k : Fin 4) : sliceOff s (across s d) k = sliceOff s d k := by revert s d k; decide +kernel

/-- A transfer lands where its receiver expects it. -/
theorem dstOf_peer (s : Bool) (d : Dev nD) (j : Slot) : dstOf s (peer (s, j) d) j = dstOf s d j := by
  cases j with
  | first k => exact slice_congr _ (sliceOff_peer s d k) _ _
  | second v => rfl
  | third v => rfl
  | back v => exact slice_congr _ (sliceOff_peer s d (hi v)) _ _
  | pass v => exact slice_congr _ (sliceOff_peer s d (lo v)) _ _

theorem owns_intro' (c : Thread nD τ) {sp : Space} {sh : Shape} {e : EltTy} (m : Memref sig c.2.kind sp sh e) (q : PosShare TreeShare)
    (f : m.view.ty.Contents (Elt F)) (X : sh.Idx → Elt F e) (h : m.view.read (Elt F) f = X) :
    (m.view.loc c ↦[m.view.set]{q} f : sProp 𝕄) ⊢ owns c m q X := by
  subst h; exact owns_intro c m q f

section Mem
variable (c : Dev nD) {α : Type}

/-- Reading a rectangle that is owned as a slice yields what it holds. -/
theorem runs_load {sh : Shape} {e : EltTy} (b : Memref sig .tc .vmem sh e) (r : Rect sh) (hr : ∀ a, r.stride a = 1) (q : PosShare TreeShare)
    (X : r.shape.Idx → Elt F e) {hl : b.view.LoadsAt r.toLoadRect} {k : (r.shape.Idx → Elt F e) → P F α} {Q : α → sProp 𝕄} :
    (owns (c : Thread nD τ) (b.slice r hr) q X : sProp 𝕄)
      ⊢ iprop((owns (c : Thread nD τ) (b.slice r hr) q X -∗ runs c (k X) Q) -∗ runs c (.op (.load b r.toLoadRect hl) k) Q) := by
  unfold owns
  iintro ⟨%f, %hf, H⟩ Hk
  subst hf
  iapply (wp_load_rect 𝒱₀ (c : Thread nD τ) none Set.univ (m := b) (r := r) (hl := hl) (k := k) (q := q) (f := f)
    (S := (b.slice r hr).view.set) (Finset.Subset.refl _)) $$ H
  iintro H
  iapply Hk
  iexists f
  isplitr; · ipureintro; rfl
  iexact H

/-- Writing a rectangle that is owned as a slice. -/
theorem runs_store {sh : Shape} {e : EltTy} (b : Memref sig .tc .vmem sh e) (r : Rect sh) (hr : ∀ a, r.stride a = 1)
    (X w : r.shape.Idx → Elt F e) {hx : (b.access r).Stores Finset.univ} {hm : Finset.univ = Finset.univ ∨ ∀ a, r.stride a = 1} {k : PUnit → P F α}
    {Q : α → sProp 𝕄} :
    (owns (c : Thread nD τ) (b.slice r hr) fullShare X : sProp 𝕄)
      ⊢ iprop((owns (c : Thread nD τ) (b.slice r hr) fullShare w -∗ runs c (k ⟨⟩) Q) -∗ runs c (.op (.store b r w Finset.univ hx hm) k) Q) := by
  unfold owns
  iintro ⟨%f, %hf, H⟩ Hk
  iapply (wp_store 𝒱₀ (c : Thread nD τ) none Set.univ (m := b) (r := r) (w := w) (Mk := Finset.univ) (hx := hx) (hm := hm) (k := k) (f := f)
    (S := (b.slice r hr).view.set) (by rw [View.setOn_univ])) $$ H
  iintro H
  iapply Hk
  iexists _
  isplitr
  swap
  · iexact H
  · ipureintro; exact View.read_write_univ _ _

end Mem

/-! ## Transfers -/

section Xfer
variable (A : Dev nD → Left F) (B : Dev nD → Right F) (K : Dev nD × Cell → ℕ) (c : Dev nD)

/-- The invariants of all cells, under the names `K`, and that every cell is in its round. -/
def recs : sProp 𝕄 :=
  iprop((bigSep Finset.univ fun ck : Dev nD × Cell => cellInv ER (Rd A B) (K ck) (cell ck.1 ck.2))
    ∗ bigSep Finset.univ fun ck : Dev nD × Cell => reached ER (cell ck.1 ck.2) 0)

instance recs_persistent : BI.Persistent (recs A B K) := by unfold recs; infer_instance

theorem recs_inv (d : Dev nD) (k : Cell) : recs A B K ⊢ cellInv ER (Rd A B) (K (d, k)) (cell d k) :=
  sep_elim_left.trans (show (bigSep Finset.univ fun ck : Dev nD × Cell => (cellInv ER (Rd A B) (K ck) (cell ck.1 ck.2) : sProp 𝕄)) ⊢ _ from
    bigSep_elim (Finset.mem_univ (d, k)))
theorem recs_reached (d : Dev nD) (k : Cell) : recs A B K ⊢ reached ER (cell d k) 0 :=
  sep_elim_right.trans (show (bigSep Finset.univ fun ck : Dev nD × Cell => (reached ER (cell ck.1 ck.2) 0 : sProp 𝕄)) ⊢ _ from
    bigSep_elim (Finset.mem_univ (d, k)))

/-- Device `c` owes the credits of the transfers of `l`. -/
def owing (l : List Xfer) : sProp 𝕄 := iprop(∃ W, owes (c : Thread nD τ) (owedL c l) W)

/-- What device `c` needs to start transfer `(s, j)`: where it lands, and the right to raise both semaphores. -/
def ready (s : Bool) (j : Slot) : sProp 𝕄 :=
  iprop(landing (peer (s, j) c) s j ∗ dutyTok ER (sendCell c (s, j)) 0 false ∗ dutyTok ER (recvCell (peer (s, j) c) (s, j)) 0 false)
/-- What it needs to await the arrival of the peer's transfer, and the end of its own. -/
def expects (s : Bool) (j : Slot) : sProp 𝕄 :=
  iprop(cred (tallyAt (recvCell c (s, j)) () N) ∗ atPos ER (recvCell c (s, j)) 0 ∅ 0)
def started (s : Bool) (j : Slot) : sProp 𝕄 := cred (tallyAt (sendCell c (s, j)) () N)
/-- What these waits leave. -/
def landed (s : Bool) (j : Slot) : sProp 𝕄 := owns (c : Thread nD τ) (dstOf s c j) fullShare (val A B s (peer (s, j) c) j)
def drained (s : Bool) (j : Slot) : sProp 𝕄 := owns (c : Thread nD τ) (srcOf s c j) (lent j) (val A B s c j)

/-- The start of a transfer, addressed to `n`, the peer, and landing at `dst`, where the peer expects it. -/
theorem runs_enqueue (s : Bool) (j : Slot) (n : Dev nD) (hn : n = peer (s, j) c) (dst : Memref sig .tc .vmem S64x1024 .bf16)
    (hd : dst = dstOf s n j) (l : List Xfer) {hsc : (dst : Memref sig (Dev.tc n : Thread nD τ).2.kind .vmem S64x1024 .bf16).view.ref.isScScratch = false}
    {hsrc : (srcOf s c j).view.WordExact} {hdst : dst.view.WordExact}
    {hsem : DmaTarget.Typed .vmem (.dma (recvS s j)) (.remote (Dev.tc n : Thread nD τ) dst (.dma (sendS s j)) hsc)}
    {α : Type} {Q : α → sProp 𝕄} {k : PUnit → P F α} :
    iprop(recs A B K ∗ owing c ((s, j) :: l) ∗ drained A B c s j ∗ ready c s j)
      ⊢ iprop(((owing c l ∗ started c s j) -∗ runs c (k ⟨⟩) Q)
          -∗ runs c (.op (.enqueueDma (srcOf s c j) (.remote (Dev.tc n : Thread nD τ) dst (.dma (sendS s j)) hsc) (.dma (recvS s j)) hsrc hdst hsem) k) Q) := by
  subst hn
  subst hd
  unfold owing drained ready started landing owns
  iintro ⟨#Hr, ⟨%W, HO⟩, ⟨%fs, %hfs, Hs⟩, ⟨⟨%X, %fd, %hfd, Hd⟩, Ht₁, Ht₂⟩⟩ Hk
  iapply (Rounds.wp_send_pointsTo 𝒱₀ ER (Rd A B) (c : Thread nD τ) none (κ₁ := K (c, some (false, s, j))) (κ₂ := K (peer (s, j) c, some (true, s, j)))
    (r₁ := 0) (r₂ := 0) (d₁ := false) (d₂ := false) (src := srcOf s c j) (dst := dstOf s (peer (s, j) c) j)
    (c' := ((peer (s, j) c : Dev nD) : Thread nD τ)) (sS := .dma (sendS s j)) (sem := .dma (recvS s j)) (q := lent j) (fs := fs) (fd := fd)
    ((duties_cell A B c (some (false, s, j))).symm ▸ Finset.mem_singleton_self _)
    ((duties_cell A B (peer (s, j) c) (some (true, s, j))).symm ▸ Finset.mem_singleton_self _)
    () () N (credit_dst s _ j) (amount_cell A B c (some (false, s, j)) false) (amount_cell A B (peer (s, j) c) (some (true, s, j)) false)
    (owedL c l) rfl (W := W)
    ((owns_intro' (c : Thread nD τ) _ _ fs _ hfs).trans (Entails.of_eq (payload_cell A B c (some (false, s, j)) false).symm))
    ((owns_intro' ((peer (s, j) c : Dev nD) : Thread nD τ) _ _ _ _ (by rw [View.read_write_univ, hfs]; exact congrArg (fun d => val A B s d j) (peer_peer (s, j) c).symm)).trans
      (Entails.of_eq (payload_cell A B (peer (s, j) c) (some (true, s, j)) false).symm))) $$ [HO Hs Hd Ht₁ Ht₂]
  · isplitr; · iapply (recs_inv A B K c (some (false, s, j))); iexact Hr
    isplitr; · iapply (recs_inv A B K (peer (s, j) c) (some (true, s, j))); iexact Hr
    isplitl [Hs]; · iexact Hs
    isplitl [Hd]; · iexact Hd
    isplitl [HO]; · iexact HO
    isplitl [Ht₁]; · iexact Ht₁
    isplitr; · iapply (recs_reached A B K c (some (false, s, j))); iexact Hr
    isplitl [Ht₂]; · iexact Ht₂
    iapply (recs_reached A B K (peer (s, j) c) (some (true, s, j))); iexact Hr
  iintro ⟨HcS, HO⟩
  iapply Hk
  isplitl [HO]
  · iexists W; iexact HO
  iexact HcS

/-- Starting transfer `(s, j)`: its source and what it needs are given up, the credit for its end is gained. -/
theorem runs_send (s : Bool) (j : Slot) (l : List Xfer) {Q : PUnit → sProp 𝕄} :
    iprop(recs A B K ∗ owing c ((s, j) :: l) ∗ drained A B c s j ∗ ready c s j)
      ⊢ iprop(((owing c l ∗ started c s j) -∗ Q ⟨⟩) -∗ runs c (send c s j) Q) := by
  iintro H Hk
  unfold send
  iapply (runs_enqueue A B K c s j (peer (s, j) c) rfl (dstOf s c j) (dstOf_peer s c j).symm l) $$ H
  iintro H
  ihave H := Hk $$ H
  unfold runs; rw [wp_ret]
  imodintro
  iexact H

/-- A wait on one of the device's own transfer semaphores: what it stands for, and the semaphore closed at zero. -/
theorem runs_wait (r s : Bool) (j : Slot) (l : List Xfer) (h : ∀ t ∈ l, cellLevel (some (some (r, s, j))) < 2 + place t)
    (q : DmaSem sig) (hq : SemLoc.dma q = csem (some (r, s, j)))
    (src dst : Memref sig .tc .vmem S64x1024 .bf16) (hdst : dst.view.dmaCredit = N) {hs : src.view.WordExact} {hd : dst.view.WordExact} {Q : PUnit → sProp 𝕄} :
    iprop(recs A B K ∗ levAts L lv ∗ owing c l ∗ cred (tallyAt (cell c (some (r, s, j))) () N) ∗ atPos ER (cell c (some (r, s, j))) 0 ∅ 0)
      ⊢ iprop(((owing c l ∗ xferPay A B c r s j ∗ semVal (cell c (some (r, s, j))) 0) -∗ Q ⟨⟩)
          -∗ runs c (Prog.lift (.waitDma2 q src dst hs hd)) Q) := by
  unfold owing
  iintro ⟨#Hr, #Hlev, ⟨%W, HO⟩, Hc, Hat⟩ Hk
  iapply (Rounds.wp_wait_rest_token 𝒱₀ ER (Rd A B) (c : Thread nD τ) none (κ := K (c, some (r, s, j)))
      (wpE_waitDma2_eq 𝒱₀ (c : Thread nD τ) none Set.univ) (Set.mem_univ _) () (O := owedL c l) (W := W) (R := 0) (m := 0) (T := ∅)
      (by rw [Nat.zero_add, hdst, hq]; exact (expect_xfer A B c (r, s, j)).symm)) $$ [HO Hc Hat]
  · rw [hdst, hq]
    isplitr; · iapply (recs_inv A B K c (some (r, s, j))); iexact Hr
    isplitl [Hc]; · iexact Hc
    isplitl [HO]; · iexact HO
    isplitr; · iapply (mayWait_cell c (some (r, s, j)) l h); iexact Hlev
    iexact Hat
  rw [hq]
  iintro ⟨HO, Hat, -, Hpay⟩
  ihave Hp := (Entails.of_eq (rest_xfer A B c r s j)) $$ Hpay
  imod (Rounds.cell_close ER (Rd A B) (κ := K (c, some (r, s, j))) (Set.mem_univ _) (fun h => h) (R := 0 + 1) (duties_later A B (cell c (some (r, s, j))))) $$ [Hat] with Hv
  · isplitr; · iapply (recs_inv A B K c (some (r, s, j))); iexact Hr
    iexact Hat
  ihave H := Hk $$ [HO Hp Hv]
  · isplitl [HO]
    · iexists _; iexact HO
    isplitl [Hp]; · iexact Hp
    iexact Hv
  rw [wp_ret]
  imodintro
  iexact H

/-- Awaiting an arrival. -/
theorem runs_recv (s : Bool) (j : Slot) (l : List Xfer) (h : ∀ t ∈ l, place (s, j) < place t) {Q : PUnit → sProp 𝕄} :
    iprop(recs A B K ∗ levAts L lv ∗ owing c l ∗ expects c s j)
      ⊢ iprop(((owing c l ∗ landed A B c s j ∗ semVal (recvCell c (s, j)) 0) -∗ Q ⟨⟩) -∗ runs c (awaitRecv c s j) Q) := by
  unfold expects landed awaitRecv
  exact runs_wait A B K c true s j l (fun t ht => Nat.add_lt_add_left (h t ht) 2) _ rfl _ _ (credit_dst s c j)

theorem link_link (l : Bool) (j : Slot) : link (link l j) j = l := by cases l <;> cases j <;> rfl

/-- Awaiting the end of an own transfer, when nothing is owed any more. -/
theorem runs_sent (l : Bool) (j : Slot) {Q : PUnit → sProp 𝕄} :
    iprop(recs A B K ∗ levAts L lv ∗ owing c [] ∗ started c (link l j) j ∗ atPos ER (sendCell c (link l j, j)) 0 ∅ 0)
      ⊢ iprop(((owing c [] ∗ drained A B c (link l j) j ∗ semVal (sendCell c (link l j, j)) 0) -∗ Q ⟨⟩) -∗ runs c (awaitSent l j) Q) := by
  unfold started drained awaitSent
  exact runs_wait A B K c false (link l j) j [] (fun t ht => absurd ht (List.not_mem_nil)) _ rfl _ _ (credit_top l)

end Xfer

end Cert.Exchange
-- ==== Proof.Stages.lean ====
/-
Each stage of the program from what it needs to what it leaves, for either side and any slab.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program that is done, and one program after another. -/
theorem runs_ret (c : Dev nD) {α : Type} (a : α) {Q : α → sProp 𝕄} : Q a ⊢ (runs (F := F) c (.ret a) Q : sProp 𝕄) := by
  unfold runs
  rw [wp_ret]
  iintro H
  imodintro
  iexact H

theorem runs_bind (c : Dev nD) {α β : Type} (p : P F α) (k : α → P F β) {Q : β → sProp 𝕄} :
    (runs c (p >>= k) Q : sProp 𝕄) = runs c p (fun a => runs c (k a) Q) := wp_bind _ _ _ _ _ _

/-! ## Buffers read as a whole, and halved shares -/

/-- Reading a rectangle of a memref that is owned entire. -/
theorem runs_load_in (c : Dev nD) {α : Type} {sh : Shape} {e : EltTy} (b : Memref sig .tc .vmem sh e) (r : Rect sh) (q : PosShare TreeShare)
    (X : sh.Idx → Elt F e) {hl : b.view.LoadsAt r.toLoadRect} {k : (r.shape.Idx → Elt F e) → P F α} {Q : α → sProp 𝕄} :
    (owns (c : Thread nD τ) b q X : sProp 𝕄)
      ⊢ iprop((owns (c : Thread nD τ) b q X -∗ runs c (k (fun j => X (r.emb j))) Q) -∗ runs c (.op (.load b r.toLoadRect hl) k) Q) := by
  unfold owns
  iintro ⟨%f, %hf, H⟩ Hk
  subst hf
  iapply (wp_load 𝒱₀ (c : Thread nD τ) none Set.univ (m := b) (r := r.toLoadRect) (hl := hl) (k := k) (q := q) (f := f)
    (S := b.view.set) (by rw [← View.setOn_univ]; exact Finset.map_subset_map.mpr (Finset.subset_univ _))) $$ H
  iintro H
  iapply Hk
  iexists f
  isplitr; · ipureintro; rfl
  iexact H

theorem runs_read (c : Dev nD) {sh : Shape} {e : EltTy} (b : Memref sig .tc .vmem sh e) (r : Rect sh) (q : PosShare TreeShare)
    (X : sh.Idx → Elt F e) {hl : b.view.LoadsAt r.toLoadRect} {Q : (r.shape.Idx → Elt F e) → sProp 𝕄} :
    (owns (c : Thread nD τ) b q X : sProp 𝕄)
      ⊢ iprop((owns (c : Thread nD τ) b q X -∗ Q (fun j => X (r.emb j))) -∗ runs c (Prog.lift (.load b r.toLoadRect hl)) Q) := by
  iintro H Hk
  unfold Prog.lift
  iapply (runs_load_in c b r q X) $$ H
  iintro H
  ihave H := Hk $$ H
  iapply (runs_ret c _) $$ H

/-- Reading and writing a rectangle that is owned by itself. -/
theorem runs_get (c : Dev nD) {sh : Shape} {e : EltTy} (b : Memref sig .tc .vmem sh e) (r : Rect sh) (hr : ∀ a, r.stride a = 1) (q : PosShare TreeShare)
    (X : r.shape.Idx → Elt F e) {hl : b.view.LoadsAt r.toLoadRect} {Q : (r.shape.Idx → Elt F e) → sProp 𝕄} :
    (owns (c : Thread nD τ) (b.slice r hr) q X : sProp 𝕄)
      ⊢ iprop((owns (c : Thread nD τ) (b.slice r hr) q X -∗ Q X) -∗ runs c (Prog.lift (.load b r.toLoadRect hl)) Q) := by
  iintro H Hk
  unfold Prog.lift
  iapply (runs_load c b r hr q X) $$ H
  iintro H
  ihave H := Hk $$ H
  iapply (runs_ret c _) $$ H

theorem off_zero : (![0, 0] : Fin 2 → ℕ) = fun _ => 0 := funext fun a => by fin_cases a <;> rfl

/-- Reading the rounded factor. -/
theorem runs_loadFactor (c : Dev nD) (q : PosShare TreeShare) (X : (S512x1024 : Shape).Idx → Elt F .bf16) {Q : ((S512x1024 : Shape).Idx → Elt F .bf16) → sProp 𝕄} :
    (owns (c : Thread nD τ) cM q X : sProp 𝕄) ⊢ iprop((owns (c : Thread nD τ) cM q X -∗ Q X) -∗ runs c loadFactor Q) := by
  iintro H Hk
  unfold loadFactor
  iapply (runs_load_in c cM _ q X) $$ H
  iintro H
  rw [show (fun j => X ((Rect.unit (s := S512x1024) ![0, 0] S512x1024.size inb_S512x1024_S512x1024_0_0).emb j)) = X from
    Memref.readAt_unit_zero (Elt F) cc0_scratch0 off_zero _ X]
  ihave H := Hk $$ H
  iapply (runs_ret c _) $$ H

/-- A full share of a slab is two halves. -/
theorem owns_halves (c : Dev nD) {sh : Shape} {e : EltTy} (b : Memref sig .tc .vmem sh e) (X : sh.Idx → Elt F e) :
    (owns (c : Thread nD τ) b fullShare X : sProp 𝕄) ⊢ iprop(owns (c : Thread nD τ) b fullShare.left X ∗ owns (c : Thread nD τ) b fullShare.right X) := by
  unfold owns
  iintro ⟨%f, %hf, H⟩
  ihave H := (pointsTo_share (PosShare.mem_left_op_right fullShare)).1 $$ H
  icases H with ⟨H₁, H₂⟩
  isplitl [H₁]
  · iexists f; isplitr; · ipureintro; exact hf
    iexact H₁
  · iexists f; isplitr; · ipureintro; exact hf
    iexact H₂

/-- Two shares of one region, whatever contents they name, are one. -/
theorem pointsTo_unshare {ℓ : Loc nD τ sig} {I : Finset (Idx ℓ)} {q q₁ q₂ : PosShare TreeShare} (h : q ∈ PCS.op q₁ q₂) (f g : Buf (Elt F) ℓ) :
    iprop((ℓ ↦[I]{q₁} f) ∗ ℓ ↦[I]{q₂} g) ⊢ (ℓ ↦[I]{q} f : sProp 𝕄) :=
  pure_elim _ pointsTo_agree fun hfg => (sep_mono .rfl (Entails.of_eq (pointsTo_congr fun i hi => ((hfg i (Finset.mem_inter.mpr ⟨hi, hi⟩)).1).symm))).trans (pointsTo_share h).2

theorem owns_unhalve (c : Dev nD) {sh : Shape} {e : EltTy} (b : Memref sig .tc .vmem sh e) (X Y : sh.Idx → Elt F e) :
    iprop(owns (c : Thread nD τ) b fullShare.left X ∗ owns (c : Thread nD τ) b fullShare.right Y) ⊢ (owns (c : Thread nD τ) b fullShare X : sProp 𝕄) := by
  unfold owns
  iintro ⟨⟨%f, %hf, H₁⟩, ⟨%g, %hg, H₂⟩⟩
  ihave H := (pointsTo_unshare (ℓ := b.view.loc (c : Thread nD τ)) (PosShare.mem_left_op_right fullShare) f g) $$ [H₁ H₂]
  · isplitl [H₁]; · iexact H₁
    iexact H₂
  iexists f; isplitr; · ipureintro; exact hf
  iexact H

/-- A buffer's slab named as a load names it. -/
theorem slab_eq (b : Memref sig .tc .vmem S256x1024 .bf16) (s : Bool) (d : Dev nD) (k : Fin 4) :
    b.slice (slabR s d k) (fun _ => rfl) = slab b s d k := slice_congr b (slabOff_eq s d k) _ _

section Slabs
variable (c : Dev nD) (s : Bool) (q : PosShare TreeShare)

theorem runs_loadSlab (b : Memref sig .tc .vmem S256x1024 .bf16) (k : Fin 4) (X : Slab F .bf16) {Q : Slab F .bf16 → sProp 𝕄} :
    (owns (c : Thread nD τ) (slab b s c k) q X : sProp 𝕄) ⊢ iprop((owns (c : Thread nD τ) (slab b s c k) q X -∗ Q X) -∗ runs c (loadSlab b c s k) Q) := by
  rw [← slab_eq]
  iintro H Hk
  unfold loadSlab
  iapply (runs_load c b (slabR s c k) (fun _ => rfl) q X) $$ H
  iintro H
  ihave H := Hk $$ H
  iapply (runs_ret c _) $$ H

theorem runs_storeSlab (b : Memref sig .tc .vmem S256x1024 .bf16) (k : Fin 4) (X w : Slab F .bf16) {hx : (b.access (slabR s c k)).Stores Finset.univ}
    {hm : Finset.univ = Finset.univ ∨ ∀ a, (slabR s c k).stride a = 1}
    {α : Type} {p : PUnit → P F α} {Q : α → sProp 𝕄} :
    (owns (c : Thread nD τ) (slab b s c k) fullShare X : sProp 𝕄)
      ⊢ iprop((owns (c : Thread nD τ) (slab b s c k) fullShare w -∗ runs c (p ⟨⟩) Q) -∗ runs c (.op (.store b (slabR s c k) w Finset.univ hx hm) p) Q) := by
  rw [← slab_eq]
  exact runs_store c b (slabR s c k) (fun _ => rfl) X w

theorem runs_loadHalf (b : Memref sig .tc .vmem S128x1024 .bf16) (v : Fin 2) (X : Slab F .bf16) {Q : Slab F .bf16 → sProp 𝕄} :
    (owns (c : Thread nD τ) (half b v) q X : sProp 𝕄) ⊢ iprop((owns (c : Thread nD τ) (half b v) q X -∗ Q X) -∗ runs c (loadHalf b v) Q) := by
  iintro H Hk
  unfold loadHalf
  iapply (runs_load c b (halfR v) (fun _ => rfl) q X) $$ H
  iintro H
  ihave H := Hk $$ H
  iapply (runs_ret c _) $$ H

theorem runs_storeHalf (b : Memref sig .tc .vmem S128x1024 .bf16) (hb : b.IsWhole) (v : Fin 2) (X w : Slab F .bf16) {Q : PUnit → sProp 𝕄} :
    (owns (c : Thread nD τ) (half b v) fullShare X : sProp 𝕄) ⊢ iprop((owns (c : Thread nD τ) (half b v) fullShare w -∗ Q ⟨⟩) -∗ runs c (storeHalf b hb v w) Q) := by
  iintro H Hk
  unfold storeHalf
  iapply (runs_store c b (halfR v) (fun _ => rfl) X w) $$ H
  iintro H
  ihave H := Hk $$ H
  iapply (runs_ret c _) $$ H

/-- Slab `k` of the kept rows of the result's buffer, and of the rows sent first; the 256 kept rows. -/
def outKeep (k : Fin 4) (X : Slab F .f32) : sProp 𝕄 := owns (c : Thread nD τ) (oM.slice (outKeepR s c k) (fun _ => rfl)) fullShare X
def outSent (k : Fin 4) (X : Slab F .f32) : sProp 𝕄 := owns (c : Thread nD τ) (oM.slice (outSentR s c k) (fun _ => rfl)) fullShare X
def outBig (X : (S256x1024 : Shape).Idx → Elt F .f32) : sProp 𝕄 := owns (c : Thread nD τ) (oM.slice (bigR s c) (fun _ => rfl)) fullShare X

theorem runs_loadOut (k : Fin 4) (X : Slab F .f32) {Q : Slab F .f32 → sProp 𝕄} :
    (outKeep c s k X : sProp 𝕄) ⊢ iprop((outKeep c s k X -∗ Q X) -∗ runs c (loadOut c s k) Q) := by
  unfold outKeep loadOut
  iintro H Hk
  iapply (runs_load c oM (outKeepR s c k) (fun _ => rfl) fullShare X) $$ H
  iintro H
  ihave H := Hk $$ H
  iapply (runs_ret c _) $$ H

theorem runs_storeOut (k : Fin 4) (X w : Slab F .f32) {Q : PUnit → sProp 𝕄} :
    (outKeep c s k X : sProp 𝕄) ⊢ iprop((outKeep c s k w -∗ Q ⟨⟩) -∗ runs c (storeOut c s k w) Q) := by
  unfold outKeep storeOut
  iintro H Hk
  iapply (runs_store c oM (outKeepR s c k) (fun _ => rfl) X w) $$ H
  iintro H
  ihave H := Hk $$ H
  iapply (runs_ret c _) $$ H

end Slabs

/-! ## The stages -/

section Stages
variable (A : Dev nD → Left F) (B : Dev nD → Right F) (K : Dev nD × Cell → ℕ) (c : Dev nD)

/-- What every stage uses and hands on: the records, what is owed, and the two factors. -/
def base (l : List Xfer) : sProp 𝕄 :=
  iprop(recs A B K ∗ levAts L lv ∗ owing c l ∗ owns (c : Thread nD τ) aM fullShare (A c) ∗ owns (c : Thread nD τ) cM fullShare (factor B c))

/-- A slab of a staging buffer, with any contents. -/
def anySlab (b : Memref sig .tc .vmem S64x1024 .bf16) : sProp 𝕄 := iprop(∃ X, owns (c : Thread nD τ) b fullShare X)
/-- The arrival's semaphore closed. -/
def closedRecv (s : Bool) (j : Slot) : sProp 𝕄 := semVal (recvCell c (s, j)) 0
def closedSent (s : Bool) (j : Slot) : sProp 𝕄 := semVal (sendCell c (s, j)) 0

variable (s : Bool)

/-- A stage that starts a transfer. -/
theorem base_send (j : Slot) (l : List Xfer) {Q : PUnit → sProp 𝕄} :
    iprop(base A B K c ((s, j) :: l) ∗ drained A B c s j ∗ ready c s j)
      ⊢ iprop(((base A B K c l ∗ started c s j) -∗ Q ⟨⟩) -∗ runs c (send c s j) Q) := by
  unfold base
  iintro ⟨⟨#Hr, #Hv, HO, Ha, Hc⟩, Hd, Hy⟩ Hk
  iapply (runs_send A B K c s j l) $$ [HO Hd Hy]
  · isplitr; · iexact Hr
    isplitl [HO]; · iexact HO
    isplitl [Hd]; · iexact Hd
    iexact Hy
  iintro ⟨HO, Hs⟩
  iapply Hk
  isplitr [Hs]
  · isplitr; · iexact Hr
    isplitr; · iexact Hv
    isplitl [HO]; · iexact HO
    isplitl [Ha]; · iexact Ha
    iexact Hc
  iexact Hs

/-- A stage that awaits an arrival. -/
theorem base_recv (j : Slot) (l : List Xfer) (h : ∀ t ∈ l, place (s, j) < place t) {Q : PUnit → sProp 𝕄} :
    iprop(base A B K c l ∗ expects c s j)
      ⊢ iprop(((base A B K c l ∗ landed A B c s j ∗ closedRecv c s j) -∗ Q ⟨⟩) -∗ runs c (awaitRecv c s j) Q) := by
  unfold base closedRecv
  iintro ⟨⟨#Hr, #Hv, HO, Ha, Hc⟩, He⟩ Hk
  iapply (runs_recv A B K c s j l h) $$ [HO He]
  · isplitr; · iexact Hr
    isplitr; · iexact Hv
    isplitl [HO]; · iexact HO
    iexact He
  iintro ⟨HO, Hd, Hz⟩
  iapply Hk
  isplitr [Hd Hz]
  · isplitr; · iexact Hr
    isplitr; · iexact Hv
    isplitl [HO]; · iexact HO
    isplitl [Ha]; · iexact Ha
    iexact Hc
  isplitl [Hd]; · iexact Hd
  iexact Hz

/-- What the first transfer of a slab lends. -/
theorem drained_first (k : Fin 4) : (drained A B c s (.first k) : sProp 𝕄)
    = owns (c : Thread nD τ) (slab (stgOne s) s c k) fullShare (k0_pay2 (fun j => A c ((sentR s c k).emb j)) (factor B c)) := rfl
theorem drained_second (v : Fin 2) : (drained A B c s (.second v) : sProp 𝕄)
    = owns (c : Thread nD τ) (half (stgTwo s) v) fullShare (k0_pay14 (own A B s c (lo v)) (first A B s (across s c) (lo v))) := rfl
theorem drained_third (v : Fin 2) : (drained A B c s (.third v) : sProp 𝕄)
    = owns (c : Thread nD τ) (half (stgThree s) v) fullShare.left (third A B s c v) := rfl
theorem drained_back (v : Fin 2) : (drained A B c s (.back v) : sProp 𝕄)
    = owns (c : Thread nD τ) (half (stgThree s) v) fullShare.right (third A B s c v) := rfl
theorem drained_pass (v : Fin 2) : (drained A B c s (.pass v) : sProp 𝕄)
    = owns (c : Thread nD τ) (half (bufThree s) v) fullShare.left (third A B s (across (!s) c) v) := rfl
theorem landed_first (k : Fin 4) : (landed A B c s (.first k) : sProp 𝕄)
    = owns (c : Thread nD τ) (slab (bufOne s) s c k) fullShare (first A B s (across s c) k) := rfl
theorem landed_second (v : Fin 2) : (landed A B c s (.second v) : sProp 𝕄)
    = owns (c : Thread nD τ) (half (bufTwo s) v) fullShare (second A B s (across (!s) c) v) := rfl
theorem landed_third (v : Fin 2) : (landed A B c s (.third v) : sProp 𝕄)
    = owns (c : Thread nD τ) (half (bufThree s) v) fullShare (third A B s (across (!s) c) v) := rfl

/-- The first stage. -/
theorem runs_first (k : Fin 4) (l : List Xfer) {Q : PUnit → sProp 𝕄} :
    iprop(base A B K c ((s, .first k) :: l) ∗ (anySlab c (slab (stgOne s) s c k) ∗ ready c s (.first k)))
      ⊢ iprop(((base A B K c l ∗ started c s (.first k)) -∗ Q ⟨⟩) -∗ runs c (firstStage c s k) Q) := by
  unfold firstStage anySlab
  iintro ⟨Hb, ⟨%X, Hx⟩, Hy⟩ Hk
  rw [runs_bind]
  unfold base
  icases Hb with ⟨#Hr, #Hv, HO, Ha, Hc⟩
  iapply (runs_read c aM (sentR s c k) fullShare (A c)) $$ Ha
  iintro Ha
  rw [runs_bind]
  iapply (runs_loadFactor c fullShare (factor B c)) $$ Hc
  iintro Hc
  rw [runs_bind]
  iapply (runs_loadSlab c s fullShare (stgOne s) k X) $$ Hx
  iintro Hx
  iapply (runs_storeSlab c s (stgOne s) k X (k0_pay2 (fun j => A c ((sentR s c k).emb j)) (factor B c))) $$ Hx
  iintro Hx
  ihave Hx := (Entails.of_eq (drained_first A B c s k).symm) $$ Hx
  iapply (base_send A B K c s (.first k) l) $$ [HO Ha Hc Hx Hy]
  · isplitr [Hx Hy]
    · unfold base
      isplitr; · iexact Hr
      isplitr; · iexact Hv
      isplitl [HO]; · iexact HO
      isplitl [Ha]; · iexact Ha
      iexact Hc
    isplitl [Hx]; · iexact Hx
    iexact Hy
  unfold base
  iexact Hk

/-- The product of the kept rows. -/
theorem runs_keep (l : List Xfer) {Q : PUnit → sProp 𝕄} :
    iprop(base A B K c l ∗ ∃ X, outBig c s X)
      ⊢ iprop(((base A B K c l ∗ outBig c s (big A B s c)) -∗ Q ⟨⟩) -∗ runs c (keepStage c s) Q) := by
  unfold keepStage outBig
  iintro ⟨Hb, ⟨%X, Hx⟩⟩ Hk
  rw [runs_bind]
  unfold base
  icases Hb with ⟨#Hr, #Hv, HO, Ha, Hc⟩
  iapply (runs_read c aM (keepR s c) fullShare (A c)) $$ Ha
  iintro Ha
  rw [runs_bind]
  iapply (runs_loadFactor c fullShare (factor B c)) $$ Hc
  iintro Hc
  rw [runs_bind]
  iapply (runs_get c oM (bigR s c) (fun _ => rfl) fullShare X) $$ Hx
  iintro Hx
  iapply (runs_store c oM (bigR s c) (fun _ => rfl) X _) $$ Hx
  iintro Hx
  iapply (runs_ret c _)
  iapply Hk
  isplitr [Hx]
  · isplitr; · iexact Hr
    isplitr; · iexact Hv
    isplitl [HO]; · iexact HO
    isplitl [Ha]; · iexact Ha
    iexact Hc
  iexact Hx

/-- The second stage. -/
theorem runs_second (v : Fin 2) (l : List Xfer) (h : ∀ t ∈ (s, Slot.second v) :: l, place (s, .first (lo v)) < place t) {Q : PUnit → sProp 𝕄} :
    iprop(base A B K c ((s, .second v) :: l)
        ∗ (expects c s (.first (lo v)) ∗ outKeep c s (lo v) (own A B s c (lo v)) ∗ anySlab c (half (stgTwo s) v) ∗ ready c s (.second v)))
      ⊢ iprop(((base A B K c l ∗ (landed A B c s (.first (lo v)) ∗ closedRecv c s (.first (lo v)) ∗ outKeep c s (lo v) (own A B s c (lo v))
            ∗ started c s (.second v))) -∗ Q ⟨⟩) -∗ runs c (secondStage c s v) Q) := by
  unfold secondStage anySlab
  iintro ⟨Hb, He, Ho, ⟨%X, Hx⟩, Hy⟩ Hk
  rw [runs_bind]
  iapply (base_recv A B K c s (.first (lo v)) _ h) $$ [Hb He]
  · isplitl [Hb]; · iexact Hb
    iexact He
  iintro ⟨Hb, Hl, Hz⟩
  rw [runs_bind]
  iapply (runs_loadOut c s (lo v) _) $$ Ho
  iintro Ho
  ihave Hl := (Entails.of_eq (landed_first A B c s (lo v))) $$ Hl
  rw [runs_bind]
  iapply (runs_loadSlab c s fullShare (bufOne s) (lo v) _) $$ Hl
  iintro Hl
  rw [runs_bind]
  iapply (runs_loadHalf c fullShare (stgTwo s) v X) $$ Hx
  iintro Hx
  rw [runs_bind]
  iapply (runs_storeHalf c (stgTwo s) (stgTwo_whole s) v X _) $$ Hx
  iintro Hx
  ihave Hx := (Entails.of_eq (drained_second A B c s v).symm) $$ Hx
  ihave Hl := (Entails.of_eq (landed_first A B c s (lo v)).symm) $$ Hl
  iapply (base_send A B K c s (.second v) l) $$ [Hb Hx Hy]
  · isplitl [Hb]; · iexact Hb
    isplitl [Hx]; · iexact Hx
    iexact Hy
  iintro ⟨Hb, Hs⟩
  iapply Hk
  isplitl [Hb]; · iexact Hb
  isplitl [Hl]; · iexact Hl
  isplitl [Hz]; · iexact Hz
  isplitl [Ho]; · iexact Ho
  iexact Hs

/-- The third stage. -/
theorem runs_third (v : Fin 2) (l : List Xfer) (h : ∀ t ∈ (s, Slot.third v) :: (s, Slot.back v) :: l, place (s, .second v) < place t) {Q : PUnit → sProp 𝕄} :
    iprop(base A B K c ((s, .third v) :: (s, .back v) :: l)
        ∗ (landed A B c s (.first (hi v)) ∗ expects c s (.second v) ∗ outKeep c s (hi v) (own A B s c (hi v)) ∗ anySlab c (half (stgThree s) v)
            ∗ ready c s (.third v) ∗ ready c s (.back v)))
      ⊢ iprop(((base A B K c l ∗ (landed A B c s (.first (hi v)) ∗ landed A B c s (.second v) ∗ closedRecv c s (.second v)
            ∗ outKeep c s (hi v) (done A B s c v) ∗ started c s (.third v) ∗ started c s (.back v))) -∗ Q ⟨⟩) -∗ runs c (thirdStage c s v) Q) := by
  unfold thirdStage anySlab
  iintro ⟨Hb, Hf, He, Ho, ⟨%X, Hx⟩, Hy, Hw⟩ Hk
  rw [runs_bind]
  iapply (base_recv A B K c s (.second v) _ h) $$ [Hb He]
  · isplitl [Hb]; · iexact Hb
    iexact He
  iintro ⟨Hb, Hl, Hz⟩
  rw [runs_bind]
  iapply (runs_loadOut c s (hi v) _) $$ Ho
  iintro Ho
  ihave Hf := (Entails.of_eq (landed_first A B c s (hi v))) $$ Hf
  rw [runs_bind]
  iapply (runs_loadSlab c s fullShare (bufOne s) (hi v) _) $$ Hf
  iintro Hf
  ihave Hl := (Entails.of_eq (landed_second A B c s v)) $$ Hl
  rw [runs_bind]
  iapply (runs_loadHalf c fullShare (bufTwo s) v _) $$ Hl
  iintro Hl
  rw [runs_bind]
  iapply (runs_loadOut c s (hi v) _) $$ Ho
  iintro Ho
  rw [runs_bind]
  iapply (runs_storeOut c s (hi v) _ _) $$ Ho
  iintro Ho
  rw [runs_bind]
  iapply (runs_loadHalf c fullShare (stgThree s) v X) $$ Hx
  iintro Hx
  rw [runs_bind]
  iapply (runs_storeHalf c (stgThree s) (stgThree_whole s) v X (third A B s c v)) $$ Hx
  iintro Hx
  ihave Hx := (owns_halves c _ _) $$ Hx
  icases Hx with ⟨Hx₁, Hx₂⟩
  ihave Hx₁ := (Entails.of_eq (drained_third A B c s v).symm) $$ Hx₁
  ihave Hx₂ := (Entails.of_eq (drained_back A B c s v).symm) $$ Hx₂
  ihave Hl := (Entails.of_eq (landed_second A B c s v).symm) $$ Hl
  ihave Hf := (Entails.of_eq (landed_first A B c s (hi v)).symm) $$ Hf
  rw [runs_bind]
  iapply (base_send A B K c s (.third v) _) $$ [Hb Hx₁ Hy]
  · isplitl [Hb]; · iexact Hb
    isplitl [Hx₁]; · iexact Hx₁
    iexact Hy
  iintro ⟨Hb, Hs₁⟩
  iapply (base_send A B K c s (.back v) l) $$ [Hb Hx₂ Hw]
  · isplitl [Hb]; · iexact Hb
    isplitl [Hx₂]; · iexact Hx₂
    iexact Hw
  iintro ⟨Hb, Hs₂⟩
  iapply Hk
  isplitl [Hb]; · iexact Hb
  isplitl [Hf]; · iexact Hf
  isplitl [Hl]; · iexact Hl
  isplitl [Hz]; · iexact Hz
  isplitl [Ho]; · iexact Ho
  isplitl [Hs₁]; · iexact Hs₁
  iexact Hs₂

/-- What a passed slab's stage keeps of where it landed. -/
def kept (v : Fin 2) : sProp 𝕄 := owns (c : Thread nD τ) (half (bufThree s) v) fullShare.right (third A B s (across (!s) c) v)

/-- The stage that passes on. -/
theorem runs_pass (v : Fin 2) (l : List Xfer) (h : ∀ t ∈ (s, Slot.pass v) :: l, place (s, .third v) < place t) {Q : PUnit → sProp 𝕄} :
    iprop(base A B K c ((s, .pass v) :: l)
        ∗ (expects c s (.third v) ∗ ready c s (.pass v) ∗ outKeep c s (lo v) (own A B s c (lo v))))
      ⊢ iprop(((base A B K c l ∗ (kept A B c s v ∗ closedRecv c s (.third v)
            ∗ outKeep c s (lo v) (k0_pay29 (third A B s (across (!s) c) v)) ∗ started c s (.pass v))) -∗ Q ⟨⟩) -∗ runs c (passStage c s v) Q) := by
  unfold passStage kept
  iintro ⟨Hb, He, Hy, Ho⟩ Hk
  rw [runs_bind]
  iapply (base_recv A B K c s (.third v) _ h) $$ [Hb He]
  · isplitl [Hb]; · iexact Hb
    iexact He
  iintro ⟨Hb, Hl, Hz⟩
  ihave Hl := (Entails.of_eq (landed_third A B c s v)) $$ Hl
  ihave Hl := (owns_halves c _ _) $$ Hl
  icases Hl with ⟨Hx, Hl⟩
  ihave Hx := (Entails.of_eq (drained_pass A B c s v).symm) $$ Hx
  rw [runs_bind]
  iapply (base_send A B K c s (.pass v) l) $$ [Hb Hx Hy]
  · isplitl [Hb]; · iexact Hb
    isplitl [Hx]; · iexact Hx
    iexact Hy
  iintro ⟨Hb, Hs⟩
  rw [runs_bind]
  iapply (runs_loadHalf c fullShare.right (bufThree s) v _) $$ Hl
  iintro Hl
  rw [runs_bind]
  iapply (runs_loadOut c s (lo v) _) $$ Ho
  iintro Ho
  iapply (runs_storeOut c s (lo v) _ _) $$ Ho
  iintro Ho
  iapply Hk
  isplitl [Hb]; · iexact Hb
  isplitl [Hl]; · iexact Hl
  isplitl [Hz]; · iexact Hz
  isplitl [Ho]; · iexact Ho
  iexact Hs

/-- A last stage, at a slot that lands in slab `k` of the fourth buffer. -/
theorem runs_last (j : Slot) (k : Fin 4) (hj : dstOf s c j = slab (bufFour s) s c k) {Q : PUnit → sProp 𝕄} :
    iprop(base A B K c [] ∗ (expects c s j ∗ ∃ X, outSent c s k X))
      ⊢ iprop(((base A B K c [] ∗ (landed A B c s j ∗ closedRecv c s j ∗ outSent c s k (k0_pay29 (val A B s (peer (s, j) c) j)))) -∗ Q ⟨⟩)
          -∗ runs c (lastStage c s j k) Q) := by
  unfold lastStage outSent
  iintro ⟨Hb, He, ⟨%X, Ho⟩⟩ Hk
  rw [runs_bind]
  iapply (base_recv A B K c s j _ (fun t ht => absurd ht (List.not_mem_nil))) $$ [Hb He]
  · isplitl [Hb]; · iexact Hb
    iexact He
  iintro ⟨Hb, Hl, Hz⟩
  unfold landed
  rw [hj, runs_bind]
  iapply (runs_loadSlab c s fullShare (bufFour s) k _) $$ Hl
  iintro Hl
  rw [runs_bind]
  iapply (runs_get c oM (outSentR s c k) (fun _ => rfl) fullShare X) $$ Ho
  iintro Ho
  iapply (runs_store c oM (outSentR s c k) (fun _ => rfl) X _) $$ Ho
  iintro Ho
  iapply (runs_ret c _)
  iapply Hk
  isplitl [Hb]; · iexact Hb
  isplitl [Hl]; · iexact Hl
  isplitl [Hz]; · iexact Hz
  iexact Ho

/-- The wait for the end of an own transfer, at a link and a slot. -/
theorem runs_drain (x : Bool × Slot) {Q : PUnit → sProp 𝕄} :
    iprop(base A B K c [] ∗ (started c (link x.1 x.2) x.2 ∗ atPos ER (sendCell c (link x.1 x.2, x.2)) 0 ∅ 0))
      ⊢ iprop(((base A B K c [] ∗ (drained A B c (link x.1 x.2) x.2 ∗ closedSent c (link x.1 x.2) x.2)) -∗ Q ⟨⟩) -∗ runs c (awaitSent x.1 x.2) Q) := by
  unfold base closedSent
  iintro ⟨⟨#Hr, #Hv, HO, Ha, Hc⟩, Hs, Hp⟩ Hk
  iapply (runs_sent A B K c x.1 x.2) $$ [HO Hs Hp]
  · isplitr; · iexact Hr
    isplitr; · iexact Hv
    isplitl [HO]; · iexact HO
    isplitl [Hs]; · iexact Hs
    iexact Hp
  iintro ⟨HO, Hd, Hz⟩
  iapply Hk
  isplitr [Hd Hz]
  · isplitr; · iexact Hr
    isplitr; · iexact Hv
    isplitl [HO]; · iexact HO
    isplitl [Ha]; · iexact Ha
    iexact Hc
  isplitl [Hd]; · iexact Hd
  iexact Hz

/-! ## A list of stages -/

/-- Every stage of a list meets its condition on what is still owed: those of the list after it, and the rest. -/
def Meets {ι : Type} (ok : ι → List Xfer → Prop) (outs : ι → List Xfer) (rest : List Xfer) : List ι → Prop
  | [] => True
  | i :: l => ok i (l.flatMap outs ++ rest) ∧ Meets ok outs rest l

/-- Stages that each start the transfers `outs`, one after another: from what all need to what all leave. -/
theorem runs_run {ι : Type} (f : ι → P F PUnit) (ok : ι → List Xfer → Prop) (outs : ι → List Xfer) (Pre Post : ι → sProp 𝕄)
    (hf : ∀ i l, ok i l → ∀ Q : PUnit → sProp 𝕄,
      iprop(base A B K c (outs i ++ l) ∗ Pre i) ⊢ iprop(((base A B K c l ∗ Post i) -∗ Q ⟨⟩) -∗ runs c (f i) Q))
    (rest : List Xfer) : ∀ l : List ι, Meets ok outs rest l → ∀ Q : PUnit → sProp 𝕄,
      iprop(base A B K c (l.flatMap outs ++ rest) ∗ bigSepL l Pre) ⊢ iprop(((base A B K c rest ∗ bigSepL l Post) -∗ Q ⟨⟩) -∗ runs c (run f l) Q)
  | [], _, Q => by
    unfold run
    iintro ⟨Hb, Hp⟩ Hk
    iapply (runs_ret c _)
    iapply Hk
    isplitl [Hb]; · iexact Hb
    iapply (show (bigSepL [] Pre : sProp 𝕄) ⊢ bigSepL [] Post from Entails.of_eq rfl)
    iexact Hp
  | i :: l, h, Q => by
    unfold run
    rw [List.flatMap_cons, List.append_assoc]
    iintro ⟨Hb, Hp⟩ Hk
    ihave Hp := (show (bigSepL (i :: l) Pre : sProp 𝕄) ⊢ iprop(Pre i ∗ bigSepL l Pre) from Entails.of_eq (bigSepL_cons i l Pre)) $$ Hp
    icases Hp with ⟨Hi, Hl⟩
    rw [runs_bind]
    iapply (hf i _ h.1 _) $$ [Hb Hi]
    · isplitl [Hb]; · iexact Hb
      iexact Hi
    iintro ⟨Hb, Hi⟩
    iapply (runs_run f ok outs Pre Post hf rest l h.2 Q) $$ [Hb Hl]
    · isplitl [Hb]; · iexact Hb
      iexact Hl
    iintro ⟨Hb, Hl⟩
    iapply Hk
    isplitl [Hb]; · iexact Hb
    iapply (show iprop(Post i ∗ bigSepL l Post) ⊢ (bigSepL (i :: l) Post : sProp 𝕄) from Entails.of_eq (bigSepL_cons i l Post).symm)
    isplitl [Hi]; · iexact Hi
    iexact Hl

end Stages

end Cert.Exchange
-- ==== Proof.Rows.lean ====
/-
The rows of the buffers: a buffer as its slabs, and slabs back to a buffer.
-/
module

public import proofs.«01_k».proof.Proof.Stages
public import Idealize.ShloMosaic.Lib.Pipeline.BigSepL

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Families of rows -/

section Family
variable {T : Type} [Fintype T] [DecidableEq T] {n m h : ℕ} (off : T → Fin 2 → ℕ)
  (inb : ∀ t a, off t a + (⟨2, ![h, m]⟩ : Shape).size a ≤ (⟨2, ![n, m]⟩ : Shape).size a)

/-- The rectangle of `h` full rows that member `t` names. -/
abbrev rowsR (t : T) : Rect ⟨2, ![n, m]⟩ := Rect.unit (s := ⟨2, ![n, m]⟩) (off t) (⟨2, ![h, m]⟩ : Shape).size (inb t)

/-- Members whose rows are apart name disjoint rectangles. -/
theorem rows_disjoint (hrow : ∀ t t', t ≠ t' → off t 0 + h ≤ off t' 0 ∨ off t' 0 + h ≤ off t 0) (t t' : T) (ht : t ≠ t') :
    Disjoint (rowsR off inb t).set (rowsR off inb t').set := Rect.unit_disjoint 0 (hrow t t' ht)

/-- Members that name every block of `h` rows name every index. -/
theorem rows_cover (h0 : 0 < h) (hcol : ∀ t, off t 1 = 0) (hrow : ∀ q, q * h < n → ∃ t, off t 0 = q * h) :
    Finset.univ.biUnion (fun t => (rowsR off inb t).set) = Finset.univ := by
  refine Finset.eq_univ_iff_forall.mpr fun i => ?_
  have hi : (i 0 : ℕ) < n := (i 0).isLt
  have hj : (i 1 : ℕ) < m := (i 1).isLt
  have hd := Nat.div_add_mod (i 0 : ℕ) h
  have hm := Nat.mod_lt (i 0 : ℕ) h0
  rw [Nat.mul_comm] at hd
  obtain ⟨t, ht⟩ := hrow ((i 0 : ℕ) / h) (by omega)
  refine Finset.mem_biUnion.mpr ⟨t, Finset.mem_univ _, Rect.mem_set_unit.mpr fun a => ?_⟩
  have hc := hcol t
  match a with
  | ⟨0, _⟩ => exact ⟨show off t 0 ≤ (i 0 : ℕ) by omega, show (i 0 : ℕ) < off t 0 + h by omega⟩
  | ⟨1, _⟩ => exact ⟨show off t 1 ≤ (i 1 : ℕ) by omega, show (i 1 : ℕ) < off t 1 + m by omega⟩

end Family

/-- A function on the whole with given parts on the members of a disjoint family. -/
def glue {T : Type} {sh : Shape} {V : Type} (r : T → Rect sh) (v : V) (Y : ∀ t, (r t).shape.Idx → V) : sh.Idx → V := by
  classical exact fun i => if h : ∃ p : Σ t, (r t).shape.Idx, (r p.1).emb p.2 = i then Y h.choose.1 h.choose.2 else v

theorem glue_emb {T : Type} {sh : Shape} {V : Type} (r : T → Rect sh) (v : V) (Y : ∀ t, (r t).shape.Idx → V)
    (hd : ∀ t t', t ≠ t' → Disjoint (r t).set (r t').set) (t : T) (j : (r t).shape.Idx) : glue r v Y ((r t).emb j) = Y t j := by
  have h : ∃ p : Σ t, (r t).shape.Idx, (r p.1).emb p.2 = (r t).emb j := ⟨⟨t, j⟩, rfl⟩
  unfold glue
  rw [dif_pos h]
  generalize hp : h.choose = p
  have he : (r p.1).emb p.2 = (r t).emb j := hp ▸ h.choose_spec
  obtain ⟨t', j'⟩ := p
  have ht : t' = t := by
    by_contra hne
    have h₁ : (r t').emb j' ∈ (r t').set := by rw [← Rect.map_emb_univ]; exact Finset.mem_map_of_mem _ (Finset.mem_univ _)
    have h₂ : (r t').emb j' ∈ (r t).set := by
      rw [show (r t').emb j' = (r t).emb j from he, ← Rect.map_emb_univ]; exact Finset.mem_map_of_mem _ (Finset.mem_univ _)
    exact Finset.disjoint_left.mp (hd t' t hne) h₁ h₂
  subst ht
  exact congrArg (Y t') ((r t').emb.injective he)

/-- Some value of every element type. -/
instance elt_nonempty (e : EltTy) : Nonempty (Elt F e) := by
  cases e <;> first | exact ⟨(0 : BitVec _)⟩ | exact ⟨FloatOps.ofBits _ 0⟩

section Own
variable (c : Dev nD)

/-- The members of a disjoint covering family, each with its own contents, are the memref with the contents glued. -/
theorem owns_glue {T : Type} [Fintype T] [DecidableEq T] {sh : Shape} {e : EltTy} (b : Memref sig .tc .vmem sh e) (q : PosShare TreeShare)
    (r : T → Rect sh) (hr : ∀ t a, (r t).stride a = 1) (hd : ∀ t t', t ≠ t' → Disjoint (r t).set (r t').set)
    (hcov : Finset.univ.biUnion (fun t => (r t).set) = Finset.univ) (v : Elt F e) (Y : ∀ t, (r t).shape.Idx → Elt F e) :
    (bigSep Finset.univ (fun t => owns (c : Thread nD τ) (b.slice (r t) (hr t)) q (Y t)) : sProp 𝕄) ⊢ owns (c : Thread nD τ) b q (glue r v Y) := by
  refine Entails.trans (Entails.of_eq ?_) (owns_of_rects (c : Thread nD τ) b q r hr hd hcov (glue r v Y))
  congr 1
  funext t
  congr 1
  funext j
  exact (glue_emb r v Y hd t j).symm

/-- A rectangle of a rectangle. -/
theorem owns_slice_slice {sh : Shape} {e : EltTy} (b : Memref sig .tc .vmem sh e) (q : PosShare TreeShare) (off₁ size₁ off₂ size off : Fin sh.rank → ℕ)
    (p₁ : ∀ a, off₁ a + size₁ a ≤ sh.size a) (p₂ : ∀ a, off₂ a + size a ≤ size₁ a) (p : ∀ a, off a + size a ≤ sh.size a)
    (h : ∀ a, off a = off₁ a + off₂ a) (X : (⟨sh.rank, size⟩ : Shape).Idx → Elt F e) :
    (owns (c : Thread nD τ) ((b.slice (Rect.unit off₁ size₁ p₁) (fun _ => rfl)).slice (Rect.unit (s := ⟨sh.rank, size₁⟩) off₂ size p₂) (fun _ => rfl)) q X : sProp 𝕄)
      = owns (c : Thread nD τ) (b.slice (Rect.unit off size p) (fun _ => rfl)) q X := by
  have hr : ∀ j : (⟨sh.rank, size⟩ : Shape).Idx, (Rect.unit off₁ size₁ p₁).emb ((Rect.unit (s := ⟨sh.rank, size₁⟩) off₂ size p₂).emb j) = (Rect.unit off size p).emb j :=
    fun j => funext fun a => Fin.ext (show off₁ a + 1 * (off₂ a + 1 * (j a : ℕ)) = off a + 1 * (j a : ℕ) by rw [h a]; omega)
  have he : ((b.slice (Rect.unit off₁ size₁ p₁) (fun _ => rfl)).slice (Rect.unit (s := ⟨sh.rank, size₁⟩) off₂ size p₂) (fun _ => rfl)).view.emb
      = (b.slice (Rect.unit off size p) (fun _ => rfl)).view.emb := Function.Embedding.ext fun j => congrArg b.view.emb (hr j)
  have hs : ((b.slice (Rect.unit off₁ size₁ p₁) (fun _ => rfl)).slice (Rect.unit (s := ⟨sh.rank, size₁⟩) off₂ size p₂) (fun _ => rfl)).view.set
      = (b.slice (Rect.unit off size p) (fun _ => rfl)).view.set := congrArg (Finset.univ.map ·) he
  have hf (f : b.view.ty.Contents (Elt F)) : ((b.slice (Rect.unit off₁ size₁ p₁) (fun _ => rfl)).slice (Rect.unit (s := ⟨sh.rank, size₁⟩) off₂ size p₂) (fun _ => rfl)).view.read (Elt F) f
      = (b.slice (Rect.unit off size p) (fun _ => rfl)).view.read (Elt F) f := funext fun j => congrArg (b.view.read (Elt F) f) (hr j)
  have hp (f : b.view.ty.Contents (Elt F)) :
      (((b.slice (Rect.unit off₁ size₁ p₁) (fun _ => rfl)).slice (Rect.unit (s := ⟨sh.rank, size₁⟩) off₂ size p₂) (fun _ => rfl)).view.loc (c : Thread nD τ)
          ↦[((b.slice (Rect.unit off₁ size₁ p₁) (fun _ => rfl)).slice (Rect.unit (s := ⟨sh.rank, size₁⟩) off₂ size p₂) (fun _ => rfl)).view.set]{q} f : sProp 𝕄)
        = ((b.slice (Rect.unit off size p) (fun _ => rfl)).view.loc (c : Thread nD τ) ↦[(b.slice (Rect.unit off size p) (fun _ => rfl)).view.set]{q} f) :=
    congrArg (fun S => (b.view.loc (c : Thread nD τ) ↦[S]{q} f : sProp 𝕄)) hs
  refine equiv_iff.mp ⟨?_, ?_⟩
  · unfold owns
    refine (show (_ : sProp 𝕄) ⊢ _ from ?_)
    iintro ⟨%f, %hX, H⟩
    iexists f
    isplitr; · ipureintro; exact (hf f).symm.trans hX
    iapply (Entails.of_eq (hp f)) $$ H
  · unfold owns
    refine (show (_ : sProp 𝕄) ⊢ _ from ?_)
    iintro ⟨%f, %hX, H⟩
    iexists f
    isplitr; · ipureintro; exact (hf f).trans hX
    iapply (Entails.of_eq (hp f).symm) $$ H

end Own

/-! ## The rows of each buffer -/

theorem slab_apart (s : Bool) (d : Dev nD) (k k' : Fin 4) (h : k ≠ k') : slabOff s d k 0 + 64 ≤ slabOff s d k' 0 ∨ slabOff s d k' 0 + 64 ≤ slabOff s d k 0 := by
  revert s d k k'; decide +kernel
theorem slab_col (s : Bool) (d : Dev nD) (k : Fin 4) : slabOff s d k 1 = 0 := by revert s d k; decide +kernel
theorem slab_row (s : Bool) (d : Dev nD) : ∀ q : Fin 4, ∃ k, slabOff s d k 0 = q.val * 64 := by revert s d; decide +kernel
theorem slab_disjoint (s : Bool) (d : Dev nD) (k k' : Fin 4) (h : k ≠ k') : Disjoint (slabR s d k).set (slabR s d k').set :=
  rows_disjoint (n := 256) (m := 1024) (h := 64) (slabOff s d) (slabOff_inb s d) (slab_apart s d) k k' h
theorem slab_cover (s : Bool) (d : Dev nD) : Finset.univ.biUnion (fun k => (slabR s d k).set) = Finset.univ :=
  rows_cover (n := 256) (m := 1024) (h := 64) (slabOff s d) (slabOff_inb s d) (by decide) (slab_col s d) fun q hq => slab_row s d ⟨q, by omega⟩

theorem half_apart (v v' : Fin 2) (h : v ≠ v') : halfOff v 0 + 64 ≤ halfOff v' 0 ∨ halfOff v' 0 + 64 ≤ halfOff v 0 := by revert v v'; decide +kernel
theorem half_col (v : Fin 2) : halfOff v 1 = 0 := by revert v; decide +kernel
theorem half_row : ∀ q : Fin 2, ∃ v, halfOff v 0 = q.val * 64 := by decide +kernel
theorem half_disjoint (v v' : Fin 2) (h : v ≠ v') : Disjoint (halfR v).set (halfR v').set :=
  rows_disjoint (n := 128) (m := 1024) (h := 64) halfOff halfOff_inb half_apart v v' h
theorem half_cover : Finset.univ.biUnion (fun v => (halfR v).set) = Finset.univ :=
  rows_cover (n := 128) (m := 1024) (h := 64) halfOff halfOff_inb (by decide) half_col fun q hq => half_row ⟨q, by omega⟩

/-- The device whose kept rows of side `s` are this device's kept rows (`false`), or the rows it sends first (`true`). -/
def who (c : Dev nD) (s b : Bool) : Dev nD := match b with | false => c | true => across s c

abbrev partR (c : Dev nD) (x : Bool × Bool) : Rect S1024x1024 := bigR x.1 (who c x.1 x.2)
theorem part_apart (c : Dev nD) (x x' : Bool × Bool) (h : x ≠ x') :
    bigOff x.1 (who c x.1 x.2) 0 + 256 ≤ bigOff x'.1 (who c x'.1 x'.2) 0 ∨ bigOff x'.1 (who c x'.1 x'.2) 0 + 256 ≤ bigOff x.1 (who c x.1 x.2) 0 := by
  revert c x x'; decide +kernel
theorem big_col (s : Bool) (d : Dev nD) : bigOff s d 1 = 0 := by revert s d; decide +kernel
theorem part_row (c : Dev nD) : ∀ q : Fin 4, ∃ x : Bool × Bool, bigOff x.1 (who c x.1 x.2) 0 = q.val * 256 := by revert c; decide +kernel
theorem part_disjoint (c : Dev nD) (x x' : Bool × Bool) (h : x ≠ x') : Disjoint (partR c x).set (partR c x').set :=
  rows_disjoint (n := 1024) (m := 1024) (h := 256) (fun x : Bool × Bool => bigOff x.1 (who c x.1 x.2)) (fun x => bigOff_inb x.1 _) (part_apart c) x x' h
theorem part_cover (c : Dev nD) : Finset.univ.biUnion (fun x => (partR c x).set) = Finset.univ :=
  rows_cover (n := 1024) (m := 1024) (h := 256) (fun x : Bool × Bool => bigOff x.1 (who c x.1 x.2)) (fun x => bigOff_inb x.1 _) (by decide)
    (fun x => big_col _ _) fun q hq => part_row c ⟨q, by omega⟩

theorem outKeepOff_eq (s : Bool) (d : Dev nD) (k : Fin 4) : ∀ a, outKeepOff s d k a = bigOff s d a + slabOff s d k a := by revert s d k; decide +kernel
theorem outSentOff_eq (s : Bool) (d : Dev nD) (k : Fin 4) : outSentOff s d k = outKeepOff s (across s d) k := by revert s d k; decide +kernel

/-! ## Chains over both sides -/

theorem pair_eq (Φ : Bool → sProp 𝕄) : bigSepL [false, true] Φ = iprop(Φ false ∗ Φ true) := rfl

theorem both_eq (Φ : Bool → sProp 𝕄) : bigSep Finset.univ Φ = iprop(Φ false ∗ Φ true) :=
  bigSep_univ_eq_bigSepL [false, true] (by decide) (by decide) Φ

theorem all₄_eq (Φ : Bool × Fin 4 → sProp 𝕄) : bigSepL sides₄ Φ = iprop((bigSep Finset.univ fun k => Φ (false, k)) ∗ bigSep Finset.univ fun k => Φ (true, k)) :=
  (bigSep_univ_eq_bigSepL sides₄ (by decide) (by decide) Φ).symm.trans ((bigSep_univ_prod Φ).trans (both_eq _))
theorem all₂_eq (Φ : Bool × Fin 2 → sProp 𝕄) : bigSepL sides₂ Φ = iprop((bigSep Finset.univ fun k => Φ (false, k)) ∗ bigSep Finset.univ fun k => Φ (true, k)) :=
  (bigSep_univ_eq_bigSepL sides₂ (by decide) (by decide) Φ).symm.trans ((bigSep_univ_prod Φ).trans (both_eq _))

/-- The four slabs of each side are the two low and the two high ones. -/
theorem low_high (Φ : Bool × Fin 4 → sProp 𝕄) :
    bigSepL sides₄ Φ = iprop((bigSepL sides₂ fun x => Φ (x.1, lo x.2)) ∗ bigSepL sides₂ fun x => Φ (x.1, hi x.2)) := by
  rw [← bigSepL_map (fun x : Bool × Fin 2 => (x.1, lo x.2)) sides₂ Φ, ← bigSepL_map (fun x : Bool × Fin 2 => (x.1, hi x.2)) sides₂ Φ, ← bigSepL_append]
  exact (bigSep_univ_eq_bigSepL sides₄ (by decide) (by decide) Φ).symm.trans (bigSep_univ_eq_bigSepL _ (by decide) (by decide) Φ)

/-- A statement of every transfer is one of every transfer of each kind. -/
theorem kinds_eq (Φ : Xfer → sProp 𝕄) :
    bigSep Finset.univ Φ = iprop((bigSepL sides₄ fun x => Φ (x.1, .first x.2)) ∗ (bigSepL sides₂ fun x => Φ (x.1, .second x.2))
      ∗ (bigSepL sides₂ fun x => Φ (x.1, .third x.2)) ∗ (bigSepL sides₂ fun x => Φ (x.1, .back x.2)) ∗ bigSepL sides₂ fun x => Φ (x.1, .pass x.2)) := by
  rw [← bigSepL_map (fun x : Bool × Fin 4 => ((x.1, .first x.2) : Xfer)) sides₄ Φ, ← bigSepL_map (fun x : Bool × Fin 2 => ((x.1, .second x.2) : Xfer)) sides₂ Φ,
    ← bigSepL_map (fun x : Bool × Fin 2 => ((x.1, .third x.2) : Xfer)) sides₂ Φ, ← bigSepL_map (fun x : Bool × Fin 2 => ((x.1, .back x.2) : Xfer)) sides₂ Φ,
    ← bigSepL_map (fun x : Bool × Fin 2 => ((x.1, .pass x.2) : Xfer)) sides₂ Φ, ← bigSepL_append, ← bigSepL_append, ← bigSepL_append, ← bigSepL_append]
  exact bigSep_univ_eq_bigSepL _ (by decide) (by decide) Φ

/-- The transfers by side are the transfers by link. -/
def byLink : Xfer ≃ Xfer where
  toFun t := (link t.1 t.2, t.2)
  invFun t := (link t.1 t.2, t.2)
  left_inv t := Prod.ext (link_link t.1 t.2) rfl
  right_inv t := Prod.ext (link_link t.1 t.2) rfl

theorem links_eq (Φ : Xfer → sProp 𝕄) : bigSep Finset.univ Φ = bigSep Finset.univ fun x : Bool × Slot => Φ (link x.1 x.2, x.2) := bigSep_univ_equiv byLink Φ

theorem chain_sep {I : Type} (l : List I) (Φ Ψ : I → sProp 𝕄) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    refine equiv_iff.mp ⟨?_, ?_⟩
    · refine (show (_ : sProp 𝕄) ⊢ _ from ?_)
      iintro ⟨⟨H₁, H₂⟩, H₃, H₄⟩
      isplitl [H₁ H₃]
      · isplitl [H₁]; · iexact H₁
        iexact H₃
      isplitl [H₂]; · iexact H₂
      iexact H₄
    · refine (show (_ : sProp 𝕄) ⊢ _ from ?_)
      iintro ⟨⟨H₁, H₂⟩, H₃, H₄⟩
      isplitl [H₁ H₃]
      · isplitl [H₁]; · iexact H₁
        iexact H₃
      isplitl [H₂]; · iexact H₂
      iexact H₄

section Split
variable (c : Dev nD)

/-- Some value to fill a buffer with. -/
def anyVal (e : EltTy) : Elt F e := Classical.choice (elt_nonempty e)

theorem slab_split (s : Bool) (d : Dev nD) (b : Memref sig .tc .vmem S256x1024 .bf16) (q : PosShare TreeShare) (X : (S256x1024 : Shape).Idx → Elt F .bf16) :
    (owns (c : Thread nD τ) b q X : sProp 𝕄) ⊢ bigSep Finset.univ fun k => owns (c : Thread nD τ) (slab b s d k) q (fun j => X ((slabR s d k).emb j)) :=
  (owns_rects (c : Thread nD τ) b q (slabR s d) (fun _ _ => rfl) (slab_disjoint s d) (slab_cover s d) X).trans
    (Entails.of_eq (congrArg (bigSep Finset.univ) (funext fun k => congrArg (fun m : Memref sig .tc .vmem S64x1024 .bf16 => (owns (c : Thread nD τ) m q (fun j => X ((slabR s d k).emb j)) : sProp 𝕄)) (slab_eq b s d k))))

theorem slab_glue (s : Bool) (d : Dev nD) (b : Memref sig .tc .vmem S256x1024 .bf16) (q : PosShare TreeShare) (Y : Fin 4 → Slab F .bf16) :
    (bigSep Finset.univ (fun k => owns (c : Thread nD τ) (slab b s d k) q (Y k)) : sProp 𝕄) ⊢ owns (c : Thread nD τ) b q (glue (slabR s d) (anyVal .bf16) Y) :=
  (Entails.of_eq (congrArg (bigSep Finset.univ) (funext fun k => congrArg (fun m : Memref sig .tc .vmem S64x1024 .bf16 => (owns (c : Thread nD τ) m q (Y k) : sProp 𝕄)) (slab_eq b s d k).symm))).trans
    (owns_glue c b q (slabR s d) (fun _ _ => rfl) (slab_disjoint s d) (slab_cover s d) (anyVal .bf16) Y)

theorem half_split (b : Memref sig .tc .vmem S128x1024 .bf16) (q : PosShare TreeShare) (X : (S128x1024 : Shape).Idx → Elt F .bf16) :
    (owns (c : Thread nD τ) b q X : sProp 𝕄) ⊢ bigSep Finset.univ fun v => owns (c : Thread nD τ) (half b v) q (fun j => X ((halfR v).emb j)) :=
  owns_rects (c : Thread nD τ) b q halfR (fun _ _ => rfl) half_disjoint half_cover X

theorem half_glue (b : Memref sig .tc .vmem S128x1024 .bf16) (q : PosShare TreeShare) (Y : Fin 2 → Slab F .bf16) :
    (bigSep Finset.univ (fun v => owns (c : Thread nD τ) (half b v) q (Y v)) : sProp 𝕄) ⊢ owns (c : Thread nD τ) b q (glue halfR (anyVal .bf16) Y) :=
  owns_glue c b q halfR (fun _ _ => rfl) half_disjoint half_cover (anyVal .bf16) Y

/-- A buffer with any contents. -/
def anyBuf {sp : Space} {sh : Shape} {e : EltTy} (b : Memref sig .tc sp sh e) : sProp 𝕄 := iprop(∃ X, owns (c : Thread nD τ) b fullShare X)

theorem any_of (b : Memref sig .tc .vmem S64x1024 .bf16) (X : Slab F .bf16) : (owns (c : Thread nD τ) b fullShare X : sProp 𝕄) ⊢ anySlab (F := F) c b := by
  unfold anySlab
  iintro H
  iexists X
  iexact H

theorem any_slabs (s : Bool) (d : Dev nD) (b : Memref sig .tc .vmem S256x1024 .bf16) :
    (anyBuf c b : sProp 𝕄) ⊢ bigSep Finset.univ fun k => anySlab (F := F) c (slab b s d k) := by
  unfold anyBuf
  iintro ⟨%X, H⟩
  ihave H := (slab_split c s d b fullShare X) $$ H
  iapply (show (bigSep Finset.univ (fun k => owns (c : Thread nD τ) (slab b s d k) fullShare (fun j => X ((slabR s d k).emb j))) : sProp 𝕄)
    ⊢ bigSep Finset.univ fun k => anySlab c (slab b s d k) from bigSep_mono fun k _ => any_of c _ _)
  iexact H

theorem any_halves (b : Memref sig .tc .vmem S128x1024 .bf16) :
    (anyBuf c b : sProp 𝕄) ⊢ bigSep Finset.univ fun v => anySlab (F := F) c (half b v) := by
  unfold anyBuf
  iintro ⟨%X, H⟩
  ihave H := (half_split c b fullShare X) $$ H
  iapply (show (bigSep Finset.univ (fun v => owns (c : Thread nD τ) (half b v) fullShare (fun j => X ((halfR v).emb j))) : sProp 𝕄)
    ⊢ bigSep Finset.univ fun v => anySlab c (half b v) from bigSep_mono fun v _ => any_of c _ _)
  iexact H

/-! ## The result's buffer -/

/-- Slab `k` of the 256 rows of side `s` kept by device `e`, as device `c` holds them. -/
theorem big_slab (s : Bool) (e : Dev nD) (k : Fin 4) (X : Slab F .f32) :
    (owns (c : Thread nD τ) ((oM.slice (bigR s e) (fun _ => rfl)).slice (slabR s e k) (fun _ => rfl)) fullShare X : sProp 𝕄)
      = owns (c : Thread nD τ) (oM.slice (outKeepR s e k) (fun _ => rfl)) fullShare X :=
  owns_slice_slice c oM fullShare (bigOff s e) S256x1024.size (slabOff s e k) S64x1024.size (outKeepOff s e k) (bigOff_inb s e) (slabOff_inb s e k)
    (outKeepOff_inb s e k) (outKeepOff_eq s e k) X

theorem big_split (s : Bool) (e : Dev nD) (X : (S256x1024 : Shape).Idx → Elt F .f32) :
    (owns (c : Thread nD τ) (oM.slice (bigR s e) (fun _ => rfl)) fullShare X : sProp 𝕄)
      ⊢ bigSep Finset.univ fun k => owns (c : Thread nD τ) (oM.slice (outKeepR s e k) (fun _ => rfl)) fullShare (fun j => X ((slabR s e k).emb j)) :=
  (owns_rects (c : Thread nD τ) (oM.slice (bigR s e) (fun _ => rfl)) fullShare (slabR s e) (fun _ _ => rfl) (slab_disjoint s e) (slab_cover s e) X).trans
    (Entails.of_eq (congrArg (bigSep Finset.univ) (funext fun k => big_slab c s e k _)))

theorem big_glue (s : Bool) (e : Dev nD) (Y : Fin 4 → Slab F .f32) :
    (bigSep Finset.univ (fun k => owns (c : Thread nD τ) (oM.slice (outKeepR s e k) (fun _ => rfl)) fullShare (Y k)) : sProp 𝕄)
      ⊢ owns (c : Thread nD τ) (oM.slice (bigR s e) (fun _ => rfl)) fullShare (glue (slabR s e) (anyVal .f32) Y) :=
  (Entails.of_eq (congrArg (bigSep Finset.univ) (funext fun k => (big_slab c s e k _).symm))).trans
    (owns_glue c (oM.slice (bigR s e) (fun _ => rfl)) fullShare (slabR s e) (fun _ _ => rfl) (slab_disjoint s e) (slab_cover s e) (anyVal .f32) Y)

theorem outSent_eq (s : Bool) (k : Fin 4) (X : Slab F .f32) :
    (outSent c s k X : sProp 𝕄) = owns (c : Thread nD τ) (oM.slice (outKeepR s (across s c) k) (fun _ => rfl)) fullShare X :=
  congrArg (fun m : Memref sig .tc .vmem S64x1024 .f32 => (owns (c : Thread nD τ) m fullShare X : sProp 𝕄)) (slice_congr oM (outSentOff_eq s c k) _ _)

theorem some_sent (s : Bool) (k : Fin 4) (X : Slab F .f32) : (outSent c s k X : sProp 𝕄) ⊢ iprop(∃ X, outSent (F := F) c s k X) := by
  iintro H
  iexists X
  iexact H

theorem parts_eq (Φ : Bool × Bool → sProp 𝕄) : bigSep Finset.univ Φ = iprop((Φ (false, false) ∗ Φ (false, true)) ∗ Φ (true, false) ∗ Φ (true, true)) := by
  rw [bigSep_univ_prod, both_eq, both_eq, both_eq]

/-- The result's buffer is the kept rows of each side, and the slabs of the rows sent first. -/
theorem out_split : (anyBuf c oM : sProp 𝕄)
    ⊢ iprop((bigSepL [false, true] fun s => iprop(∃ X, outBig (F := F) c s X)) ∗ bigSepL sides₄ fun x => iprop(∃ X, outSent (F := F) c x.1 x.2 X)) := by
  unfold anyBuf
  iintro ⟨%X, H⟩
  ihave H := (owns_rects (c : Thread nD τ) oM fullShare (partR c) (fun _ _ => rfl) (part_disjoint c) (part_cover c) X) $$ H
  ihave H := (Entails.of_eq (parts_eq _)) $$ H
  icases H with ⟨⟨H₁, H₂⟩, H₃, H₄⟩
  have hs (s : Bool) : (owns (c : Thread nD τ) (oM.slice (partR c (s, true)) (fun _ => rfl)) fullShare (fun j => X ((partR c (s, true)).emb j)) : sProp 𝕄)
      ⊢ bigSep Finset.univ fun k => iprop(∃ X, outSent (F := F) c s k X) :=
    (big_split c s (across s c) _).trans (bigSep_mono fun k _ => (Entails.of_eq (outSent_eq c s k _).symm).trans (some_sent c s k _))
  isplitl [H₁ H₃]
  · iapply (Entails.of_eq (pair_eq (F := F) fun s => iprop(∃ X, outBig (F := F) c s X)).symm)
    isplitl [H₁]
    · iexists _; unfold outBig; iexact H₁
    · iexists _; unfold outBig; iexact H₃
  · iapply (Entails.of_eq (all₄_eq (F := F) fun x => iprop(∃ X, outSent (F := F) c x.1 x.2 X)).symm)
    isplitl [H₂]
    · iapply (hs false); iexact H₂
    · iapply (hs true); iexact H₄

/-- The slabs of the kept rows of both sides. -/
theorem keep_split (X : Bool → (S256x1024 : Shape).Idx → Elt F .f32) :
    (bigSepL [false, true] (fun s => outBig c s (X s)) : sProp 𝕄) ⊢ bigSepL sides₄ fun x => outKeep c x.1 x.2 (fun j => X x.1 ((slabR x.1 c x.2).emb j)) := by
  refine BIBase.Entails.trans ?_ (Entails.of_eq (all₄_eq (F := F) fun x => outKeep c x.1 x.2 (fun j => X x.1 ((slabR x.1 c x.2).emb j))).symm)
  exact BIClass.sep_mono (big_split c false c (X false)) (big_split c true c (X true))

/-- The contents of the result's buffer, from its slabs. -/
def whole (Y : Bool → Bool → Fin 4 → Slab F .f32) : (S1024x1024 : Shape).Idx → Elt F .f32 :=
  glue (partR c) (anyVal .f32) fun x => glue (slabR x.1 (who c x.1 x.2)) (anyVal .f32) (Y x.1 x.2)

theorem whole_emb (Y : Bool → Bool → Fin 4 → Slab F .f32) (s b : Bool) (k : Fin 4) (j : (S64x1024 : Shape).Idx) :
    whole c Y ((partR c (s, b)).emb ((slabR s (who c s b) k).emb j)) = Y s b k j :=
  (glue_emb (partR c) _ _ (part_disjoint c) (s, b) _).trans (glue_emb (slabR s (who c s b)) _ _ (slab_disjoint s _) k j)

theorem out_glue (Y : Bool → Bool → Fin 4 → Slab F .f32) :
    iprop((bigSepL sides₄ fun x => outKeep c x.1 x.2 (Y x.1 false x.2)) ∗ bigSepL sides₄ fun x => outSent c x.1 x.2 (Y x.1 true x.2))
      ⊢ (owns (c : Thread nD τ) oM fullShare (whole c Y) : sProp 𝕄) := by
  have hk (s : Bool) : (bigSep Finset.univ (fun k => outKeep c s k (Y s false k)) : sProp 𝕄)
      ⊢ owns (c : Thread nD τ) (oM.slice (partR c (s, false)) (fun _ => rfl)) fullShare (glue (slabR s c) (anyVal .f32) (Y s false)) := big_glue c s c _
  have hs (s : Bool) : (bigSep Finset.univ (fun k => outSent c s k (Y s true k)) : sProp 𝕄)
      ⊢ owns (c : Thread nD τ) (oM.slice (partR c (s, true)) (fun _ => rfl)) fullShare (glue (slabR s (across s c)) (anyVal .f32) (Y s true)) :=
    (Entails.of_eq (congrArg (bigSep Finset.univ) (funext fun k => outSent_eq c s k _))).trans (big_glue c s (across s c) _)
  iintro ⟨H, H'⟩
  ihave H := (Entails.of_eq (all₄_eq (F := F) _)) $$ H
  ihave H' := (Entails.of_eq (all₄_eq (F := F) _)) $$ H'
  icases H with ⟨H₁, H₂⟩
  icases H' with ⟨H₃, H₄⟩
  ihave H₁ := (hk false) $$ H₁
  ihave H₂ := (hk true) $$ H₂
  ihave H₃ := (hs false) $$ H₃
  ihave H₄ := (hs true) $$ H₄
  iapply (owns_glue c oM fullShare (partR c) (fun _ _ => rfl) (part_disjoint c) (part_cover c) (anyVal .f32)
    (fun x => glue (slabR x.1 (who c x.1 x.2)) (anyVal .f32) (Y x.1 x.2)))
  iapply (Entails.of_eq (parts_eq (F := F) _).symm)
  isplitl [H₁ H₃]
  · isplitl [H₁]; · iexact H₁
    iexact H₃
  · isplitl [H₂]; · iexact H₂
    iexact H₄

end Split

end Cert.Exchange
-- ==== Proof.Opening.lean ====
/-
The start of a device's program: the greetings and the rounding of the right factor.
-/
module

public import proofs.«01_k».proof.Proof.Rows

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rectangle that is all of the rounded factor. -/
abbrev fullR : Rect S512x1024 := Rect.unit (s := S512x1024) ![0, 0] S512x1024.size inb_S512x1024_S512x1024_0_0

/-- Owning a buffer of the factor's shape is owning it through that rectangle. -/
theorem full_eq (c : Dev nD) {e : EltTy} (b : Memref sig .tc .vmem S512x1024 e) (X : (S512x1024 : Shape).Idx → Elt F e) :
    (owns (c : Thread nD τ) (b.slice fullR (fun _ => rfl)) fullShare X : sProp 𝕄) = owns (c : Thread nD τ) b fullShare X := by
  have hX : (fun j => X (fullR.emb j)) = X := funext fun j => congrArg X (funext fun a => Fin.ext
    (show (![0, 0] : Fin 2 → ℕ) a + 1 * (j a).val = (j a).val by rw [congrFun off_zero a, Nat.zero_add, Nat.one_mul]))
  have hd : ∀ t t' : Unit, t ≠ t' → Disjoint (fullR).set (fullR).set := fun t t' h => absurd rfl h
  have hcov : Finset.univ.biUnion (fun _ : Unit => fullR.set) = Finset.univ :=
    Finset.eq_univ_iff_forall.mpr fun i => Finset.mem_biUnion.mpr ⟨(), Finset.mem_univ _, Rect.mem_set_unit.mpr fun a => by
      rw [off_zero]; exact ⟨Nat.zero_le _, by rw [Nat.zero_add]; exact (i a).isLt⟩⟩
  have h₁ := owns_rects (Val := Elt F) (Ix := Unit) (Name := ℕ) (U := UU) (Lvl := ℕ) (c : Thread nD τ) b fullShare (fun _ : Unit => fullR) (fun _ _ => rfl) hd hcov X
  have h₂ := owns_of_rects (Val := Elt F) (Ix := Unit) (Name := ℕ) (U := UU) (Lvl := ℕ) (c : Thread nD τ) b fullShare (fun _ : Unit => fullR) (fun _ _ => rfl) hd hcov X
  rw [hX] at h₁ h₂
  have hu (P : sProp 𝕄) : bigSep Finset.univ (fun _ : Unit => P) = P := bigSep_univ_eq_bigSepL [()] (by decide) (by decide) _
  rw [hu] at h₁ h₂
  exact equiv_iff.mp ⟨h₂, h₁⟩

section Opening
variable (A : Dev nD → Left F) (B : Dev nD → Right F) (K : Dev nD × Cell → ℕ) (c : Dev nD)

/-- What a device holds of the barrier: the right to greet each neighbour, and to await both greetings. -/
def barGhost : sProp 𝕄 :=
  iprop(dutyTok ER (barCell (across false c)) 0 false ∗ dutyTok ER (barCell (across true c)) 0 true
    ∗ cred (tallyAt (barCell c) () 2) ∗ atPos ER (barCell c) 0 ∅ 0)

theorem bar_duty (l : Bool) : l ∈ (Rd A B).duties ((c : Thread nD τ), SemLoc.reg barS) 0 :=
  (duties_cell A B c none).symm ▸ Finset.mem_univ l
theorem bar_payload (l : Bool) : (Rd A B).payload ((c : Thread nD τ), SemLoc.reg barS) 0 l = greet c l := payload_cell A B c none l
theorem bar_expect : 0 + (2#32 : BitVec 32).toNat = (Rd A B).expect ((c : Thread nD τ), SemLoc.reg barS) 0 := (expect_bar A B c).symm
theorem bar_rest : bigSep ((Rd A B).duties ((c : Thread nD τ), SemLoc.reg barS) 0 \ ∅) (fun d => (Rd A B).payload ((c : Thread nD τ), SemLoc.reg barS) 0 d)
    = iprop(greet c false ∗ greet c true) := rest_bar A B c

/-- The greetings, and the factor rounded. -/
theorem runs_opening {Q : PUnit → sProp 𝕄} :
    iprop(recs A B K ∗ levAts L lv ∗ (∃ W, owes (c : Thread nD τ) (owed₀ c) W) ∗ barGhost c
        ∗ (greet (across false c) false ∗ greet (across true c) true) ∗ owns (c : Thread nD τ) bM fullShare (B c) ∗ anyBuf c cM)
      ⊢ iprop(((recs A B K ∗ levAts L lv ∗ owing c order ∗ semVal (barCell c) 0 ∗ (greet c false ∗ greet c true)
            ∗ owns (c : Thread nD τ) bM fullShare (B c) ∗ owns (c : Thread nD τ) cM fullShare (factor B c)) -∗ Q ⟨⟩) -∗ runs c (opening c) Q) := by
  unfold opening barGhost anyBuf
  simp only [semSignalWord, semWaitWord, Prog.lift, Prog.bind_op, Prog.bind_ret, Prog.pure_eq_ret]
  iintro ⟨#Hr, #Hlev, ⟨%W, HO⟩, ⟨Ht₁, Ht₂, Hcr, Hat⟩, ⟨Hg₁, Hg₂⟩, Hb, ⟨%X, Hc⟩⟩ Hk
  iapply (Rounds.wp_signal 𝒱₀ ER (Rd A B) (c : Thread nD τ) none (dst := ((across false c : Dev nD) : Thread nD τ)) (κ := K (across false c, none))
      (d := false) (bar_duty A B (across false c) false) ((amount_cell A B (across false c) none false).trans (by decide)) () (owed₁ c) rfl)
    $$ [HO Ht₁ Hg₁]
  · isplitr; · iapply (recs_inv A B K (across false c) none); iexact Hr
    isplitl [HO]; · iexact HO
    isplitl [Ht₁]; · iexact Ht₁
    isplitl [Hg₁]; · rw [bar_payload]; iexact Hg₁
    iapply (recs_reached A B K (across false c) none); iexact Hr
  iintro HO
  unfold owed₁
  iapply (Rounds.wp_signal 𝒱₀ ER (Rd A B) (c : Thread nD τ) none (dst := ((across true c : Dev nD) : Thread nD τ)) (κ := K (across true c, none))
      (d := true) (bar_duty A B (across true c) true) ((amount_cell A B (across true c) none true).trans (by decide)) () (owedL c order) rfl)
    $$ [HO Ht₂ Hg₂]
  · isplitr; · iapply (recs_inv A B K (across true c) none); iexact Hr
    isplitl [HO]; · iexact HO
    isplitl [Ht₂]; · iexact Ht₂
    isplitl [Hg₂]; · rw [bar_payload]; iexact Hg₂
    iapply (recs_reached A B K (across true c) none); iexact Hr
  iintro HO
  iapply (Rounds.wp_wait_rest_token 𝒱₀ ER (Rd A B) (c : Thread nD τ) none (κ := K (c, none))
      (wpE_semWait_eq 𝒱₀ (c : Thread nD τ) none Set.univ) (Set.mem_univ _) () (O := owedL c order) (W := W) (R := 0) (m := 0) (T := ∅)
      (bar_expect A B c)) $$ [Hcr HO Hat]
  · isplitr; · iapply (recs_inv A B K c none); iexact Hr
    isplitl [Hcr]; · iexact Hcr
    isplitl [HO]; · iexact HO
    isplitr; · iapply (mayWait_cell c none order (by decide)); iexact Hlev
    iexact Hat
  iintro ⟨HO, Hat, -, Hpay⟩
  ihave Hp := (Entails.of_eq (bar_rest A B c)) $$ Hpay
  imod (Rounds.cell_close ER (Rd A B) (κ := K (c, none)) (Set.mem_univ _) (fun h => h) (R := 0 + 1) (duties_later A B (barCell c))) $$ [Hat] with Hv
  · isplitr; · iapply (recs_inv A B K c none); iexact Hr
    iexact Hat
  iapply (runs_load_in c bM fullR fullShare (B c)) $$ Hb
  iintro Hb
  rw [show (fun j => B c (fullR.emb j)) = B c from Memref.readAt_unit_zero (Elt F) cc0_stg1_0 off_zero _ (B c)]
  rw [runs_bind]
  iapply (runs_loadFactor c fullShare X) $$ Hc
  iintro Hc
  ihave Hc := (Entails.of_eq (full_eq c cM X).symm) $$ Hc
  iapply (runs_store c cM fullR (fun _ => rfl) X (factor B c)) $$ Hc
  iintro Hc
  ihave Hc := (Entails.of_eq (full_eq c cM (factor B c))) $$ Hc
  iapply (runs_ret c _)
  iapply Hk
  isplitr; · iexact Hr
  isplitr; · iexact Hlev
  isplitl [HO]; · unfold owing; iexists _; iexact HO
  isplitl [Hv]; · iexact Hv
  isplitl [Hp]; · iexact Hp
  isplitl [Hb]; · iexact Hb
  iexact Hc

end Opening

end Cert.Exchange
-- ==== Proof.Body.lean ====
/-
A device's whole program: from what it holds at the start to what it holds at the end.
-/
module

public import proofs.«01_k».proof.Proof.Opening

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Four slabs from two low and two high ones -/

def pick {α : Type} (l h : Fin 2 → α) (k : Fin 4) : α := match k with | 0 => l 0 | 1 => l 1 | 2 => h 0 | 3 => h 1
theorem pick_lo {α : Type} (l h : Fin 2 → α) (v : Fin 2) : pick l h (lo v) = l v := match v with | 0 => rfl | 1 => rfl
theorem pick_hi {α : Type} (l h : Fin 2 → α) (v : Fin 2) : pick l h (hi v) = h v := match v with | 0 => rfl | 1 => rfl

theorem pick_chain {α : Type} (Φ : Bool × Fin 4 → α → sProp 𝕄) (l h : Bool → Fin 2 → α) :
    bigSepL sides₄ (fun x => Φ x (pick (l x.1) (h x.1) x.2))
      = iprop((bigSepL sides₂ fun x => Φ (x.1, lo x.2) (l x.1 x.2)) ∗ bigSepL sides₂ fun x => Φ (x.1, hi x.2) (h x.1 x.2)) := by
  rw [low_high]
  have h₁ : (fun x : Bool × Fin 2 => Φ (x.1, lo x.2) (pick (l x.1) (h x.1) (lo x.2))) = fun x => Φ (x.1, lo x.2) (l x.1 x.2) :=
    funext fun x => by rw [pick_lo]
  have h₂ : (fun x : Bool × Fin 2 => Φ (x.1, hi x.2) (pick (l x.1) (h x.1) (hi x.2))) = fun x => Φ (x.1, hi x.2) (h x.1 x.2) :=
    funext fun x => by rw [pick_hi]
  exact congrArg₂ (fun f g => iprop(bigSepL sides₂ f ∗ bigSepL sides₂ g)) h₁ h₂

/-! ## The buffers taken apart and put together -/

section Bufs
variable (c : Dev nD)

/-- A buffer of each side, with any contents. -/
def both {sh : Shape} (b : Bool → Memref sig .tc .vmem sh .bf16) : sProp 𝕄 := iprop(anyBuf (F := F) c (b false) ∗ anyBuf (F := F) c (b true))

theorem both_slabs (b : Bool → Memref sig .tc .vmem S256x1024 .bf16) :
    (both c b : sProp 𝕄) ⊢ bigSepL sides₄ fun x => anySlab (F := F) c (slab (b x.1) x.1 c x.2) := by
  rw [all₄_eq]
  exact BIClass.sep_mono (any_slabs c false c (b false)) (any_slabs c true c (b true))
theorem both_halves (b : Bool → Memref sig .tc .vmem S128x1024 .bf16) :
    (both c b : sProp 𝕄) ⊢ bigSepL sides₂ fun x => anySlab (F := F) c (half (b x.1) x.2) := by
  rw [all₂_eq]
  exact BIClass.sep_mono (any_halves c (b false)) (any_halves c (b true))

theorem anyBuf_of {sh : Shape} {e : EltTy} (b : Memref sig .tc .vmem sh e) (X : sh.Idx → Elt F e) : (owns (c : Thread nD τ) b fullShare X : sProp 𝕄) ⊢ anyBuf (F := F) c b := by
  unfold anyBuf
  iintro H
  iexists X
  iexact H

theorem slabs_both (b : Bool → Memref sig .tc .vmem S256x1024 .bf16) (Y : Bool × Fin 4 → Slab F .bf16) :
    (bigSepL sides₄ (fun x => owns (c : Thread nD τ) (slab (b x.1) x.1 c x.2) fullShare (Y x)) : sProp 𝕄) ⊢ both c b := by
  rw [all₄_eq]
  exact BIClass.sep_mono ((slab_glue c false c (b false) fullShare fun k => Y (false, k)).trans (anyBuf_of c _ _))
    ((slab_glue c true c (b true) fullShare fun k => Y (true, k)).trans (anyBuf_of c _ _))
theorem halves_both (b : Bool → Memref sig .tc .vmem S128x1024 .bf16) (Y : Bool × Fin 2 → Slab F .bf16) :
    (bigSepL sides₂ (fun x => owns (c : Thread nD τ) (half (b x.1) x.2) fullShare (Y x)) : sProp 𝕄) ⊢ both c b := by
  rw [all₂_eq]
  exact BIClass.sep_mono ((half_glue c (b false) fullShare fun k => Y (false, k)).trans (anyBuf_of c _ _))
    ((half_glue c (b true) fullShare fun k => Y (true, k)).trans (anyBuf_of c _ _))
theorem shares_both (b : Bool → Memref sig .tc .vmem S128x1024 .bf16) (Y Y' : Bool × Fin 2 → Slab F .bf16) :
    iprop((bigSepL sides₂ fun x => owns (c : Thread nD τ) (half (b x.1) x.2) fullShare.left (Y x))
      ∗ bigSepL sides₂ fun x => owns (c : Thread nD τ) (half (b x.1) x.2) fullShare.right (Y' x)) ⊢ (both c b : sProp 𝕄) := by
  rw [← chain_sep]
  exact (bigSepL_mono fun x _ => owns_unhalve c (half (b x.1) x.2) (Y x) (Y' x)).trans (halves_both c b Y)

/-- All that a device has besides the factors and the result's buffer. -/
def scratch : sProp 𝕄 :=
  iprop(anyBuf (F := F) c cM ∗ both (F := F) c stgOne ∗ both (F := F) c bufOne ∗ both (F := F) c stgTwo ∗ both (F := F) c bufTwo ∗ both (F := F) c stgThree
    ∗ both (F := F) c bufThree ∗ both (F := F) c bufFour)

/-- Where the transfers to a device land, by buffer and by link. -/
theorem landings_eq : (bigSep Finset.univ fun t : Xfer => landing (F := F) c t.1 t.2 : sProp 𝕄)
    = iprop(greet (F := F) (across false c) false ∗ greet (F := F) (across true c) true) := by
  rw [links_eq, bigSep_univ_prod, both_eq]
  unfold greet
  rw [across_across, across_across]

theorem greets_eq : iprop(greet (F := F) c false ∗ greet (F := F) c true)
    = (bigSep Finset.univ fun t : Xfer => landing (F := F) (peer t c) t.1 t.2 : sProp 𝕄) := by
  rw [links_eq, bigSep_univ_prod, both_eq]
  unfold greet
  have h (l : Bool) : (fun j : Slot => landing (F := F) (across l c) (link l j) j) = fun j => landing (peer (link l j, j) c) (link l j) j :=
    funext fun j => by show _ = landing (across (link (link l j) j) c) _ _; rw [link_link]
  rw [h false, h true]

theorem landings_of : iprop(both (F := F) c bufOne ∗ both (F := F) c bufTwo ∗ both (F := F) c bufThree ∗ both (F := F) c bufFour)
    ⊢ iprop(greet (F := F) (across false c) false ∗ greet (F := F) (across true c) true) := by
  rw [← landings_eq, kinds_eq]
  iintro ⟨H₁, H₂, H₃, H₄⟩
  ihave H₁ := (both_slabs c bufOne) $$ H₁
  ihave H₂ := (both_halves c bufTwo) $$ H₂
  ihave H₃ := (both_halves c bufThree) $$ H₃
  ihave H₄ := (both_slabs c bufFour) $$ H₄
  ihave H₄ := (Entails.of_eq (low_high (F := F) _)) $$ H₄
  icases H₄ with ⟨H₅, H₄⟩
  isplitl [H₁]; · iexact H₁
  isplitl [H₂]; · iexact H₂
  isplitl [H₃]; · iexact H₃
  isplitl [H₄]; · iexact H₄
  iexact H₅

end Bufs

/-! ## The phases -/

/-- What is owed from each phase on. -/
def dueFive : List Xfer := sides₂.flatMap (fun x => [(x.1, .pass x.2)]) ++ []
def dueThree : List Xfer := sides₂.flatMap (fun x => [(x.1, .third x.2), (x.1, .back x.2)]) ++ dueFive
def dueTwo : List Xfer := sides₂.flatMap (fun x => [(x.1, .second x.2)]) ++ dueThree
theorem order_eq : order = sides₄.flatMap (fun x => [(x.1, .first x.2)]) ++ dueTwo := rfl

section Phases
variable (A : Dev nD → Left F) (B : Dev nD → Right F) (K : Dev nD × Cell → ℕ) (c : Dev nD) {Q : PUnit → sProp 𝕄}

/-- Families of statements over the four slabs, or the two, of both sides. -/
abbrev fours (Φ : Bool → Fin 4 → sProp 𝕄) : sProp 𝕄 := bigSepL sides₄ fun x => Φ x.1 x.2
abbrev twos (Φ : Bool → Fin 2 → sProp 𝕄) : sProp 𝕄 := bigSepL sides₂ fun x => Φ x.1 x.2

theorem phase_first {Q : PUnit → sProp 𝕄} :
    iprop(base A B K c order ∗ (fours (fun s k => anySlab c (slab (stgOne s) s c k)) ∗ fours (fun s k => ready c s (.first k))))
      ⊢ iprop(((base A B K c dueTwo ∗ fours fun s k => started (F := F) c s (.first k)) -∗ Q ⟨⟩)
          -∗ runs c (run (fun x => firstStage (F := F) c x.1 x.2) sides₄) Q) := by
  rw [← chain_sep, order_eq]
  exact runs_run A B K c (fun x : Bool × Fin 4 => firstStage c x.1 x.2) (fun _ _ => True) (fun x => [(x.1, .first x.2)]) _ _
    (fun x l _ Q => runs_first A B K c x.1 x.2 l) dueTwo sides₄ ⟨trivial, trivial, trivial, trivial, trivial, trivial, trivial, trivial, trivial⟩ Q

theorem phase_keep {Q : PUnit → sProp 𝕄} :
    iprop(base A B K c dueTwo ∗ bigSepL [false, true] fun s => iprop(∃ X, outBig c s X))
      ⊢ iprop(((base A B K c dueTwo ∗ bigSepL [false, true] fun s => outBig c s (big A B s c)) -∗ Q ⟨⟩)
          -∗ runs c (run (fun s => keepStage (F := F) c s) [false, true]) Q) :=
  runs_run A B K c (fun s : Bool => keepStage c s) (fun _ _ => True) (fun _ => []) _ _
    (fun s l _ Q => runs_keep A B K c s l) dueTwo [false, true] ⟨trivial, trivial, trivial⟩ Q

theorem phase_second {Q : PUnit → sProp 𝕄} :
    iprop(base A B K c dueTwo ∗ (twos (fun s v => expects c s (.first (lo v))) ∗ twos (fun s v => outKeep c s (lo v) (own A B s c (lo v)))
        ∗ twos (fun s v => anySlab c (half (stgTwo s) v)) ∗ twos (fun s v => ready c s (.second v))))
      ⊢ iprop(((base A B K c dueThree ∗ (twos (fun s v => landed A B c s (.first (lo v))) ∗ twos (fun s v => closedRecv c s (.first (lo v)))
            ∗ twos (fun s v => outKeep c s (lo v) (own A B s c (lo v))) ∗ twos (fun s v => started (F := F) c s (.second v)))) -∗ Q ⟨⟩)
          -∗ runs c (run (fun x => secondStage (F := F) c x.1 x.2) sides₂) Q) := by
  rw [← chain_sep, ← chain_sep, ← chain_sep, ← chain_sep, ← chain_sep, ← chain_sep]
  exact runs_run A B K c (fun x : Bool × Fin 2 => secondStage c x.1 x.2)
    (fun x l => ∀ t ∈ (x.1, Slot.second x.2) :: l, place (x.1, .first (lo x.2)) < place t) (fun x => [(x.1, .second x.2)]) _ _
    (fun x l h Q => runs_second A B K c x.1 x.2 l h) dueThree sides₂ ⟨by decide, by decide, by decide, by decide, trivial⟩ Q

theorem phase_await {Q : PUnit → sProp 𝕄} :
    iprop(base A B K c dueThree ∗ twos (fun s v => expects c s (.first (hi v))))
      ⊢ iprop(((base A B K c dueThree ∗ (twos (fun s v => landed A B c s (.first (hi v))) ∗ twos (fun s v => closedRecv c s (.first (hi v))))) -∗ Q ⟨⟩)
          -∗ runs c (run (fun x => awaitRecv (F := F) c x.1 (.first (hi x.2))) sides₂) Q) := by
  rw [← chain_sep]
  exact runs_run A B K c (fun x : Bool × Fin 2 => awaitRecv c x.1 (.first (hi x.2)))
    (fun x l => ∀ t ∈ l, place (x.1, .first (hi x.2)) < place t) (fun _ => []) _ _
    (fun x l h Q => base_recv A B K c x.1 _ l h) dueThree sides₂ ⟨by decide, by decide, by decide, by decide, trivial⟩ Q

theorem phase_third {Q : PUnit → sProp 𝕄} :
    iprop(base A B K c dueThree ∗ (twos (fun s v => landed A B c s (.first (hi v))) ∗ twos (fun s v => expects c s (.second v))
        ∗ twos (fun s v => outKeep c s (hi v) (own A B s c (hi v))) ∗ twos (fun s v => anySlab c (half (stgThree s) v))
        ∗ twos (fun s v => ready c s (.third v)) ∗ twos (fun s v => ready c s (.back v))))
      ⊢ iprop(((base A B K c dueFive ∗ (twos (fun s v => landed A B c s (.first (hi v))) ∗ twos (fun s v => landed A B c s (.second v))
            ∗ twos (fun s v => closedRecv c s (.second v)) ∗ twos (fun s v => outKeep c s (hi v) (done A B s c v))
            ∗ twos (fun s v => started (F := F) c s (.third v)) ∗ twos (fun s v => started (F := F) c s (.back v)))) -∗ Q ⟨⟩)
          -∗ runs c (run (fun x => thirdStage (F := F) c x.1 x.2) sides₂) Q) := by
  rw [← chain_sep, ← chain_sep, ← chain_sep, ← chain_sep, ← chain_sep, ← chain_sep, ← chain_sep, ← chain_sep, ← chain_sep, ← chain_sep]
  exact runs_run A B K c (fun x : Bool × Fin 2 => thirdStage c x.1 x.2)
    (fun x l => ∀ t ∈ (x.1, Slot.third x.2) :: (x.1, Slot.back x.2) :: l, place (x.1, .second x.2) < place t) (fun x => [(x.1, .third x.2), (x.1, .back x.2)]) _ _
    (fun x l h Q => runs_third A B K c x.1 x.2 l h) dueFive sides₂ ⟨by decide, by decide, by decide, by decide, trivial⟩ Q

theorem phase_pass {Q : PUnit → sProp 𝕄} :
    iprop(base A B K c dueFive ∗ (twos (fun s v => expects c s (.third v)) ∗ twos (fun s v => ready c s (.pass v))
        ∗ twos (fun s v => outKeep c s (lo v) (own A B s c (lo v)))))
      ⊢ iprop(((base A B K c [] ∗ (twos (fun s v => kept A B c s v) ∗ twos (fun s v => closedRecv c s (.third v))
            ∗ twos (fun s v => outKeep c s (lo v) (k0_pay29 (third A B s (across (!s) c) v))) ∗ twos (fun s v => started (F := F) c s (.pass v)))) -∗ Q ⟨⟩)
          -∗ runs c (run (fun x => passStage (F := F) c x.1 x.2) sides₂) Q) := by
  rw [← chain_sep, ← chain_sep, ← chain_sep, ← chain_sep, ← chain_sep]
  exact runs_run A B K c (fun x : Bool × Fin 2 => passStage c x.1 x.2)
    (fun x l => ∀ t ∈ (x.1, Slot.pass x.2) :: l, place (x.1, .third x.2) < place t) (fun x => [(x.1, .pass x.2)]) _ _
    (fun x l h Q => runs_pass A B K c x.1 x.2 l h) [] sides₂ ⟨by decide, by decide, by decide, by decide, trivial⟩ Q

/-- The last receives, at slots `j v` that land in slabs `k v`. -/
theorem phase_last (j : Fin 2 → Slot) (k : Fin 2 → Fin 4) (hj : ∀ s v, dstOf s c (j v) = slab (bufFour s) s c (k v)) {Q : PUnit → sProp 𝕄} :
    iprop(base A B K c [] ∗ (twos (fun s v => expects c s (j v)) ∗ twos (fun s v => iprop(∃ X, outSent c s (k v) X))))
      ⊢ iprop(((base A B K c [] ∗ (twos (fun s v => landed A B c s (j v)) ∗ twos (fun s v => closedRecv c s (j v))
            ∗ twos (fun s v => outSent c s (k v) (k0_pay29 (val A B s (peer (s, j v) c) (j v)))))) -∗ Q ⟨⟩)
          -∗ runs c (run (fun x => lastStage (F := F) c x.1 (j x.2) (k x.2)) sides₂) Q) := by
  rw [← chain_sep, ← chain_sep, ← chain_sep]
  exact runs_run A B K c (fun x : Bool × Fin 2 => lastStage c x.1 (j x.2) (k x.2)) (fun x l => l = []) (fun _ => []) _ _
    (fun x l h Q => by subst h; exact runs_last A B K c x.1 (j x.2) (k x.2) (hj x.1 x.2)) [] sides₂ ⟨rfl, rfl, rfl, rfl, trivial⟩ Q

/-- The waits for the ends of all own transfers. -/
theorem phase_drain {Q : PUnit → sProp 𝕄} :
    iprop(base A B K c [] ∗ ((bigSep Finset.univ fun t : Xfer => started (F := F) c t.1 t.2) ∗ bigSep Finset.univ fun t : Xfer => atPos ER (sendCell c t) 0 ∅ 0))
      ⊢ iprop(((base A B K c [] ∗ ((bigSep Finset.univ fun t : Xfer => drained A B c t.1 t.2) ∗ bigSep Finset.univ fun t : Xfer => closedSent c t.1 t.2)) -∗ Q ⟨⟩)
          -∗ runs c (run (fun x => awaitSent (F := F) x.1 x.2) sent) Q) := by
  have hs (Φ : Xfer → sProp 𝕄) : bigSep Finset.univ Φ = bigSepL sent fun x : Bool × Slot => Φ (link x.1 x.2, x.2) :=
    (links_eq Φ).trans (bigSep_univ_eq_bigSepL sent (by decide) (by decide) _)
  rw [hs, hs, hs, hs, ← chain_sep, ← chain_sep]
  have hm : Meets (fun (_ : Bool × Slot) l => l = []) (fun _ => []) [] sent := by
    unfold sent
    exact ⟨rfl, rfl, rfl, rfl, rfl, rfl, rfl, rfl, rfl, rfl, rfl, rfl, rfl, rfl, rfl, rfl, rfl, rfl, rfl, rfl, rfl, rfl, rfl, rfl, trivial⟩
  exact runs_run A B K c (fun x : Bool × Slot => awaitSent x.1 x.2) (fun _ l => l = []) (fun _ => []) _ _
    (fun x l h Q => by subst h; exact runs_drain A B K c x) [] sent hm Q

end Phases

end Cert.Exchange
-- ==== Proof.Chain.lean ====
/-
A device's program end to end, and the body the kernel's launch runs.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole
variable (A : Dev nD → Left F) (B : Dev nD → Right F) (K : Dev nD × Cell → ℕ) (c : Dev nD)

/-- What the slabs of the result's buffer hold at the end: of the kept rows (`false`) and of the rows sent first (`true`). -/
def result (s b : Bool) : Fin 4 → Slab F .f32 := match b with
  | false => pick (fun v => k0_pay29 (third A B s (across (!s) c) v)) (fun v => done A B s c v)
  | true => pick (fun v => k0_pay29 (val A B s (peer (s, .pass v) c) (.pass v))) (fun v => k0_pay29 (val A B s (peer (s, .back v) c) (.back v)))

/-- What a device holds of one transfer: the right to raise both its semaphores, what awaiting the peer's transfer takes, and
the place of the semaphore that ends it. -/
def tokens (t : Xfer) : sProp 𝕄 :=
  iprop((dutyTok ER (sendCell c t) 0 false ∗ dutyTok ER (recvCell (peer t c) t) 0 false) ∗ expects (F := F) c t.1 t.2 ∗ atPos ER (sendCell c t) 0 ∅ 0)

def atStart : sProp 𝕄 :=
  iprop(recs A B K ∗ levAts L lv ∗ (∃ W, owes (c : Thread nD τ) (owed₀ c) W) ∗ barGhost (F := F) c ∗ (bigSep Finset.univ fun t : Xfer => tokens (F := F) c t)
    ∗ owns (c : Thread nD τ) aM fullShare (A c) ∗ owns (c : Thread nD τ) bM fullShare (B c) ∗ anyBuf (F := F) c oM ∗ scratch (F := F) c)

def atEnd : sProp 𝕄 :=
  iprop(owing (F := F) c [] ∗ owns (c : Thread nD τ) aM fullShare (A c) ∗ owns (c : Thread nD τ) bM fullShare (B c)
    ∗ owns (c : Thread nD τ) oM fullShare (whole c (result A B c)) ∗ scratch (F := F) c
    ∗ semVal (barCell c) 0 ∗ (bigSep Finset.univ fun t : Xfer => closedRecv (F := F) c t.1 t.2) ∗ bigSep Finset.univ fun t : Xfer => closedSent (F := F) c t.1 t.2)

theorem tokens_eq : (bigSep Finset.univ fun t : Xfer => tokens (F := F) c t)
    = iprop((bigSep Finset.univ fun t : Xfer => iprop(dutyTok ER (sendCell c t) 0 false ∗ dutyTok ER (recvCell (peer t c) t) 0 false))
      ∗ (bigSep Finset.univ fun t : Xfer => expects (F := F) c t.1 t.2) ∗ bigSep Finset.univ fun t : Xfer => atPos ER (sendCell c t) 0 ∅ 0) := by
  unfold tokens
  rw [bigSep_sep']
  exact congrArg (fun R : sProp 𝕄 => iprop((bigSep Finset.univ fun t : Xfer => iprop(dutyTok ER (sendCell c t) 0 false ∗ dutyTok ER (recvCell (peer t c) t) 0 false)) ∗ R))
    (bigSep_sep' Finset.univ (fun t : Xfer => expects (F := F) c t.1 t.2) (fun t : Xfer => atPos ER (sendCell c t) 0 ∅ 0))

/-- The greetings received and the rights held make every transfer ready. -/
theorem ready_all : iprop((greet (F := F) c false ∗ greet (F := F) c true)
      ∗ bigSep Finset.univ fun t : Xfer => iprop(dutyTok ER (sendCell c t) 0 false ∗ dutyTok ER (recvCell (peer t c) t) 0 false))
    = (bigSep Finset.univ fun t : Xfer => ready (F := F) c t.1 t.2) := by
  rw [greets_eq, ← bigSep_sep']
  rfl

/-- The kept rows and the rows sent first at their last contents. -/
theorem result_of :
    iprop((twos (fun s v => outKeep c s (lo v) (k0_pay29 (third A B s (across (!s) c) v))) ∗ twos (fun s v => outKeep c s (hi v) (done A B s c v)))
      ∗ twos (fun s v => outSent c s (lo v) (k0_pay29 (val A B s (peer (s, .pass v) c) (.pass v))))
      ∗ twos (fun s v => outSent c s (hi v) (k0_pay29 (val A B s (peer (s, .back v) c) (.back v)))))
      ⊢ (owns (c : Thread nD τ) oM fullShare (whole c (result A B c)) : sProp 𝕄) := by
  refine BIBase.Entails.trans ?_ (out_glue c (result A B c))
  have h₁ := pick_chain (F := F) (fun x Y => outKeep c x.1 x.2 Y) (fun s v => k0_pay29 (third A B s (across (!s) c) v)) (fun s v => done A B s c v)
  have h₂ := pick_chain (F := F) (fun x Y => outSent c x.1 x.2 Y) (fun s v => k0_pay29 (val A B s (peer (s, .pass v) c) (.pass v)))
    (fun s v => k0_pay29 (val A B s (peer (s, .back v) c) (.back v)))
  exact BIClass.sep_mono (Entails.of_eq h₁.symm) (Entails.of_eq h₂.symm)

/-- The buffers put back together. -/
theorem scratch_of :
    iprop(owns (c : Thread nD τ) cM fullShare (factor B c)
      ∗ (bigSep Finset.univ fun t : Xfer => drained A B c t.1 t.2)
      ∗ fours (fun s k => landed A B c s (.first k)) ∗ twos (fun s v => landed A B c s (.second v)) ∗ twos (fun s v => kept A B c s v)
      ∗ twos (fun s v => landed A B c s (.pass v)) ∗ twos (fun s v => landed A B c s (.back v)))
      ⊢ (scratch (F := F) c : sProp 𝕄) := by
  rw [kinds_eq]
  have h₁ : fours (fun s k => drained A B c s (.first k)) ⊢ both c stgOne := slabs_both c stgOne fun x => first A B x.1 c x.2
  have h₂ : fours (fun s k => landed A B c s (.first k)) ⊢ both c bufOne := slabs_both c bufOne fun x => first A B x.1 (across x.1 c) x.2
  have h₃ : twos (fun s v => drained A B c s (.second v)) ⊢ both c stgTwo := halves_both c stgTwo fun x => second A B x.1 c x.2
  have h₄ : twos (fun s v => landed A B c s (.second v)) ⊢ both c bufTwo := halves_both c bufTwo fun x => second A B x.1 (across (!x.1) c) x.2
  have h₅ : iprop(twos (fun s v => drained A B c s (.third v)) ∗ twos (fun s v => drained A B c s (.back v))) ⊢ both c stgThree :=
    shares_both c stgThree (fun x => third A B x.1 c x.2) (fun x => third A B x.1 c x.2)
  have h₆ : iprop(twos (fun s v => drained A B c s (.pass v)) ∗ twos (fun s v => kept A B c s v)) ⊢ both c bufThree :=
    shares_both c bufThree (fun x => third A B x.1 (across (!x.1) c) x.2) (fun x => third A B x.1 (across (!x.1) c) x.2)
  iintro ⟨Hc, ⟨D₁, D₂, D₃, D₄, D₅⟩, L₁, L₂, Hk, L₅, L₄⟩
  ihave B₁ := h₁ $$ D₁
  ihave B₂ := h₂ $$ L₁
  ihave B₃ := h₃ $$ D₂
  ihave B₄ := h₄ $$ L₂
  ihave B₅ := h₅ $$ [D₃ D₄]
  · isplitl [D₃]; · iexact D₃
    iexact D₄
  ihave B₆ := h₆ $$ [D₅ Hk]
  · isplitl [D₅]; · iexact D₅
    iexact Hk
  ihave L := (show iprop(twos (fun s v => landed A B c s (.pass v)) ∗ twos (fun s v => landed A B c s (.back v)))
      ⊢ (bigSepL sides₄ (fun x => owns (c : Thread nD τ) (slab (bufFour x.1) x.1 c x.2) fullShare
          (pick (fun v => val A B x.1 (peer (x.1, .pass v) c) (.pass v)) (fun v => val A B x.1 (peer (x.1, .back v) c) (.back v)) x.2)) : sProp 𝕄)
    from Entails.of_eq (pick_chain (F := F) (fun x Y => owns (c : Thread nD τ) (slab (bufFour x.1) x.1 c x.2) fullShare Y)
      (fun s v => val A B s (peer (s, .pass v) c) (.pass v)) (fun s v => val A B s (peer (s, .back v) c) (.back v))).symm) $$ [L₅ L₄]
  · isplitl [L₅]; · iexact L₅
    iexact L₄
  ihave B₇ := (slabs_both c bufFour _) $$ L
  unfold scratch
  isplitl [Hc]; · iapply (anyBuf_of c cM (factor B c)); iexact Hc
  isplitl [B₁]; · iexact B₁
  isplitl [B₂]; · iexact B₂
  isplitl [B₃]; · iexact B₃
  isplitl [B₄]; · iexact B₄
  isplitl [B₅]; · iexact B₅
  isplitl [B₆]; · iexact B₆
  iexact B₇

/-- The program end to end. -/
theorem runs_chain {Q : PUnit → sProp 𝕄} :
    atStart A B K c ⊢ iprop((atEnd A B c -∗ Q ⟨⟩) -∗ runs (F := F) c (chain c) Q) := by
  unfold chain atStart
  iintro ⟨#Hr, #Hlev, HO, Hbar, Htok, Ha, Hb, Ho, Hscr⟩ Hk
  unfold scratch
  icases Hscr with ⟨Hc, S₁, B₁, S₂, B₂, S₃, B₃, B₄⟩
  ihave Hg := (landings_of c) $$ [B₁ B₂ B₃ B₄]
  · isplitl [B₁]; · iexact B₁
    isplitl [B₂]; · iexact B₂
    isplitl [B₃]; · iexact B₃
    iexact B₄
  rw [runs_bind]
  iapply (runs_opening A B K c) $$ [HO Hbar Hg Hb Hc]
  · isplitr; · iexact Hr
    isplitr; · iexact Hlev
    isplitl [HO]; · iexact HO
    isplitl [Hbar]; · iexact Hbar
    isplitl [Hg]; · iexact Hg
    isplitl [Hb]; · iexact Hb
    iexact Hc
  iintro ⟨-, -, HO, Hbar, Hg, Hb, Hc⟩
  ihave Htok := (Entails.of_eq (tokens_eq (F := F) c)) $$ Htok
  icases Htok with ⟨Hd, He, Hp⟩
  ihave Hy := (Entails.of_eq (ready_all (F := F) c)) $$ [Hg Hd]
  · isplitl [Hg]; · iexact Hg
    iexact Hd
  ihave Hy := (Entails.of_eq (kinds_eq (F := F) _)) $$ Hy
  icases Hy with ⟨Y₁, Y₂, Y₃, Y₄, Y₅⟩
  ihave He := (Entails.of_eq (kinds_eq (F := F) _)) $$ He
  icases He with ⟨E₁, E₂, E₃, E₄, E₅⟩
  ihave E₁ := (Entails.of_eq (low_high (F := F) _)) $$ E₁
  icases E₁ with ⟨El, Eh⟩
  ihave S₁ := (both_slabs c stgOne) $$ S₁
  ihave S₂ := (both_halves c stgTwo) $$ S₂
  ihave S₃ := (both_halves c stgThree) $$ S₃
  ihave Ho := (out_split c) $$ Ho
  icases Ho with ⟨Ho, Hs⟩
  ihave Hs := (Entails.of_eq (low_high (F := F) _)) $$ Hs
  icases Hs with ⟨Hsl, Hsh⟩
  -- the slabs sent first
  rw [runs_bind]
  iapply (phase_first A B K c) $$ [HO Ha Hc S₁ Y₁]
  · isplitr [S₁ Y₁]
    · unfold base
      isplitr; · iexact Hr
      isplitr; · iexact Hlev
      isplitl [HO]; · iexact HO
      isplitl [Ha]; · iexact Ha
      iexact Hc
    isplitl [S₁]; · iexact S₁
    iexact Y₁
  iintro ⟨Hbase, T₁⟩
  -- the kept rows
  rw [runs_bind]
  iapply (phase_keep A B K c) $$ [Hbase Ho]
  · isplitl [Hbase]; · iexact Hbase
    iexact Ho
  iintro ⟨Hbase, Ho⟩
  ihave Ho := (keep_split c fun s => big A B s c) $$ Ho
  ihave Ho := (Entails.of_eq (low_high (F := F) _)) $$ Ho
  icases Ho with ⟨Hol, Hoh⟩
  -- the sums sent over the second link
  rw [runs_bind]
  iapply (phase_second A B K c) $$ [Hbase El Hol S₂ Y₂]
  · isplitl [Hbase]; · iexact Hbase
    isplitl [El]; · iexact El
    isplitl [Hol]; · iexact Hol
    isplitl [S₂]; · iexact S₂
    iexact Y₂
  iintro ⟨Hbase, Ll, Cl, Hol, T₂⟩
  -- the high slabs of the first link
  rw [runs_bind]
  iapply (phase_await A B K c) $$ [Hbase Eh]
  · isplitl [Hbase]; · iexact Hbase
    iexact Eh
  iintro ⟨Hbase, Lh, Ch⟩
  -- the finished slabs
  rw [runs_bind]
  iapply (phase_third A B K c) $$ [Hbase Lh E₂ Hoh S₃ Y₃ Y₄]
  · isplitl [Hbase]; · iexact Hbase
    isplitl [Lh]; · iexact Lh
    isplitl [E₂]; · iexact E₂
    isplitl [Hoh]; · iexact Hoh
    isplitl [S₃]; · iexact S₃
    isplitl [Y₃]; · iexact Y₃
    iexact Y₄
  iintro ⟨Hbase, Lh, L₂, C₂, Hoh, T₃, T₄⟩
  -- the slabs passed on
  rw [runs_bind]
  iapply (phase_pass A B K c) $$ [Hbase E₃ Y₅ Hol]
  · isplitl [Hbase]; · iexact Hbase
    isplitl [E₃]; · iexact E₃
    isplitl [Y₅]; · iexact Y₅
    iexact Hol
  iintro ⟨Hbase, Hkept, C₃, Hol, T₅⟩
  -- the last arrivals
  rw [runs_bind]
  iapply (phase_last A B K c Slot.back hi (fun _ _ => rfl)) $$ [Hbase E₄ Hsh]
  · isplitl [Hbase]; · iexact Hbase
    isplitl [E₄]; · iexact E₄
    iexact Hsh
  iintro ⟨Hbase, L₄, C₄, Hsh⟩
  rw [runs_bind]
  iapply (phase_last A B K c Slot.pass lo (fun _ _ => rfl)) $$ [Hbase E₅ Hsl]
  · isplitl [Hbase]; · iexact Hbase
    isplitl [E₅]; · iexact E₅
    iexact Hsl
  iintro ⟨Hbase, L₅, C₅, Hsl⟩
  -- the ends of the own transfers
  iapply (phase_drain A B K c) $$ [Hbase T₁ T₂ T₃ T₄ T₅ Hp]
  · isplitl [Hbase]; · iexact Hbase
    isplitr [Hp]
    · iapply (Entails.of_eq (kinds_eq (F := F) fun t => started (F := F) c t.1 t.2).symm)
      isplitl [T₁]; · iexact T₁
      isplitl [T₂]; · iexact T₂
      isplitl [T₃]; · iexact T₃
      isplitl [T₄]; · iexact T₄
      iexact T₅
    iexact Hp
  iintro ⟨Hbase, HD, HC⟩
  unfold base
  icases Hbase with ⟨-, -, HO, Ha, Hc⟩
  iapply Hk
  unfold atEnd
  isplitl [HO]; · iexact HO
  isplitl [Ha]; · iexact Ha
  isplitl [Hb]; · iexact Hb
  isplitl [Hol Hoh Hsl Hsh]
  · iapply (result_of A B c)
    isplitl [Hol Hoh]
    · isplitl [Hol]; · iexact Hol
      iexact Hoh
    isplitl [Hsl]; · iexact Hsl
    iexact Hsh
  isplitl [Hc HD Ll Lh L₂ Hkept L₅ L₄]
  · iapply (scratch_of A B c)
    isplitl [Hc]; · iexact Hc
    isplitl [HD]; · iexact HD
    isplitl [Ll Lh]
    · iapply (Entails.of_eq (low_high (F := F) fun x => landed A B c x.1 (.first x.2)).symm)
      isplitl [Ll]; · iexact Ll
      iexact Lh
    isplitl [L₂]; · iexact L₂
    isplitl [Hkept]; · iexact Hkept
    isplitl [L₅]; · iexact L₅
    iexact L₄
  isplitl [Hbar]; · iexact Hbar
  isplitl [Cl Ch C₂ C₃ C₄ C₅]
  · iapply (Entails.of_eq (kinds_eq (F := F) fun t => closedRecv (F := F) c t.1 t.2).symm)
    isplitl [Cl Ch]
    · iapply (Entails.of_eq (low_high (F := F) fun x => closedRecv (F := F) c x.1 (.first x.2)).symm)
      isplitl [Cl]; · iexact Cl
      iexact Ch
    isplitl [C₂]; · iexact C₂
    isplitl [C₃]; · iexact C₃
    isplitl [C₄]; · iexact C₄
    iexact C₅
  iexact HC

/-- The kernel's body at its buffers. -/
theorem runs_body {Q : PUnit → sProp 𝕄} :
    atStart A B K c ⊢ iprop((atEnd A B c -∗ Q ⟨⟩) -∗ runs (F := F) c (bodyAt F) Q) := by
  rw [body_eq_chain]
  have hd : runs (F := F) c (Prog.op .deviceId fun d => chain d) Q = runs c (chain c) Q := by unfold runs; rw [wp_deviceId]
  rw [hd]
  exact runs_chain A B K c

end Whole

end Cert.Exchange
-- ==== Proof.Deal.lean ====
/-
How the launch deals the protocol out: the semaphores become the protocol's cells, each device gets the rights to raise the
cells it raises, its places at its own cells, and the credits of what it is owed.
-/
module

public import proofs.«01_k».proof.Proof.Chain

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the cells -/

/-- Over the cells: the barrier, and the transfers' semaphores. -/
theorem over_cells (Φ : Cell → sProp 𝕄) : bigSep Finset.univ Φ = iprop(Φ none ∗ bigSep Finset.univ fun x : Bool × Xfer => Φ (some x)) := by
  rw [bigSep_univ_at Φ none]
  have h : (Finset.univ.erase none : Finset Cell) = Finset.univ.map Function.Embedding.some := by decide +kernel
  rw [h, bigSep_map]; rfl

/-- Over the transfers' semaphores: the senders' and the receivers'. -/
theorem over_ends (Φ : Bool × Xfer → sProp 𝕄) : bigSep Finset.univ Φ
    = iprop((bigSep Finset.univ fun t : Xfer => Φ (false, t)) ∗ bigSep Finset.univ fun t : Xfer => Φ (true, t)) := by
  rw [bigSep_univ_prod, bigSep_univ_eq_bigSepL [false, true] (by decide) (by decide), bigSepL_cons_cons, bigSepL_singleton]
  rfl

theorem over_bools (Φ : Bool → sProp 𝕄) : bigSep Finset.univ Φ = iprop(Φ false ∗ Φ true) := by
  rw [bigSep_univ_eq_bigSepL [false, true] (by decide) (by decide), bigSepL_cons_cons, bigSepL_singleton]
  rfl

/-- A device across a link: a bijection. -/
def linkE (l : Bool) : Dev nD ≃ Dev nD := ⟨across l, across l, across_across l, across_across l⟩

/-- Dealing over a link: what each device has, its neighbour gets. -/
theorem deal_link (l : Bool) (Φ : Dev nD → sProp 𝕄) : bigSep Finset.univ Φ = bigSep Finset.univ fun c => Φ (across l c) :=
  bigSep_univ_equiv (linkE l) Φ

/-- Dealing the rights of the arrivals to the devices that start them. -/
theorem deal_peer (Φ : Dev nD → Xfer → sProp 𝕄) :
    (bigSep Finset.univ fun c : Dev nD => bigSep Finset.univ fun t : Xfer => Φ c t)
      = bigSep Finset.univ fun c : Dev nD => bigSep Finset.univ fun t : Xfer => Φ (peer t c) t := by
  rw [bigSep_univ_comm, bigSep_univ_comm (fun (c : Dev nD) (t : Xfer) => Φ (peer t c) t)]
  exact bigSep_congr fun t _ => deal_link (link t.1 t.2) fun c => Φ c t

/-! ## The launch's cells and rights -/

abbrev osem (x : Bool × Xfer) : SemLoc sig := csem (some x)

theorem at_injective : Function.Injective fun ck : Dev nD × Cell => cell ck.1 ck.2 := by
  rintro ⟨c, k⟩ ⟨c', k'⟩ h
  have h₁ : c = c' := congrArg (fun g : GSem nD τ sig => g.1.1) h
  have h₂ : k = k' := csem_injective (congrArg Prod.snd h)
  rw [h₁, h₂]
def theCells : Finset (GSem nD τ sig) := Finset.univ.map ⟨fun ck : Dev nD × Cell => cell ck.1 ck.2, at_injective⟩

/-- The rights, by device: the two of its barrier, and one for each end of each transfer. -/
abbrev Right' : Type := Bool ⊕ (Bool × Xfer)
abbrev rightOf (cr : Dev nD × Right') : GSem nD τ sig × ℕ × Bool := match cr.2 with
  | .inl l => (barCell cr.1, 0, l)
  | .inr x => (cell cr.1 (some x), 0, false)
theorem rightOf_injective : Function.Injective rightOf := by
  rintro ⟨c, r⟩ ⟨c', r'⟩ h
  have h₁ : c = c' := by
    have := congrArg (fun y : GSem nD τ sig × ℕ × Bool => y.1.1.1) h
    rcases r with l | x <;> rcases r' with l' | x' <;> exact this
  have h₂ := congrArg (fun y : GSem nD τ sig × ℕ × Bool => (y.1.2, y.2.2)) h
  rcases r with l | x <;> rcases r' with l' | x'
  · rw [h₁, show l = l' from congrArg Prod.snd h₂]
  · exact absurd (show (none : Cell) = some x' from csem_injective (congrArg Prod.fst h₂)) (fun e => by cases e)
  · exact absurd (show (some x : Cell) = none from csem_injective (congrArg Prod.fst h₂)) (fun e => by cases e)
  · rw [h₁, show x = x' from Option.some.inj (csem_injective (congrArg Prod.fst h₂))]
def theRights : Finset (GSem nD τ sig × ℕ × Bool) := Finset.univ.map ⟨rightOf, rightOf_injective⟩

def u₀ : UU := (initOf (Pipeline.cells cfgs cellOf_inj) (Pipeline.launchToks cfgs cellOf_inj), initOf theCells theRights)

/-- The rights to raise device `c`'s own cells. -/
def rights (c : Dev nD) : sProp 𝕄 :=
  iprop((bigSep Finset.univ fun l : Bool => dutyTok ER (barCell c) 0 l) ∗ bigSep Finset.univ fun x : Bool × Xfer => dutyTok ER (cell c (some x)) 0 false)

section Deal
variable (A : Dev nD → Left F) (B : Dev nD → Right F)

/-- What device `c` gets first. -/
def dealt (c : Dev nD) : sProp 𝕄 :=
  iprop((bigSep Finset.univ fun k : Cell => roundState ER (Rd A B) (cell c k) 0)
    ∗ (bigSep Finset.univ fun k : Cell => iprop(atPos ER (cell c k) 0 ∅ 0 ∗ reached ER (cell c k) 0)) ∗ rights (F := F) c)

theorem by_device (Φ : GSem nD τ sig → sProp 𝕄) :
    bigSep theCells Φ = bigSep Finset.univ fun c : Dev nD => bigSep Finset.univ fun k : Cell => Φ (cell c k) := by
  unfold theCells; rw [bigSep_map, bigSep_univ_prod]; rfl

theorem rights_by_device : bigSep theRights (fun x => (dutyTok ER x.1 x.2.1 x.2.2 : sProp 𝕄)) = bigSep Finset.univ fun c : Dev nD => rights (F := F) c := by
  unfold theRights; rw [bigSep_map, bigSep_univ_prod]
  exact bigSep_congr fun c _ => by unfold rights; rw [bigSep_univ_sum]; rfl

theorem fund_cells : BI.own (ER (initOf theCells theRights)) ⊢ (|==> bigSep Finset.univ (dealt A B) : sProp 𝕄) := by
  iintro HX
  imod (Rounds.fund ER (Rd A B) theCells theRights) $$ HX with ⟨Hst, Hr, Hat, Htok⟩
  imodintro
  ihave Hst := (Entails.of_eq (by_device fun g => roundState ER (Rd A B) g 0)) $$ Hst
  ihave Hat := (Entails.of_eq (by_device (F := F) fun g => atPos ER g 0 ∅ 0)) $$ Hat
  ihave Hr := (Entails.of_eq (by_device (F := F) fun g => reached ER g 0)) $$ Hr
  ihave Htok := (Entails.of_eq (rights_by_device (F := F))) $$ Htok
  unfold dealt; simp only [bigSep_sep']
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The semaphores at launch are the cells. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cell c k) 0 : sProp 𝕄) := by
  rw [over_cells, unscopedSems0_eq]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ dealt A B c)
      ⊢ |={Set.univ}=> iprop((bigSep Finset.univ fun k : Cell => iprop(∃ κ : ℕ, cellInv ER (Rd A B) κ (cell c k)))
          ∗ (bigSep Finset.univ fun k : Cell => iprop(atPos ER (cell c k) 0 ∅ 0 ∗ reached ER (cell c k) 0)) ∗ rights (F := F) c) := by
  unfold dealt
  iintro ⟨Hos, Hus, Hst, Hat, Htok⟩
  ihave Hv := (sems_eq (F := F) c) $$ [Hos Hus]
  · isplitl [Hos] <;> iassumption
  imod (show iprop((bigSep Finset.univ fun k : Cell => semVal (cell c k) 0) ∗ bigSep Finset.univ fun k : Cell => roundState ER (Rd A B) (cell c k) 0)
      ⊢ (|={Set.univ}=> bigSep Finset.univ fun k : Cell => iprop(∃ κ : ℕ, cellInv ER (Rd A B) κ (cell c k)) : sProp 𝕄) from by
        rw [← bigSep_sep']
        exact (bigSep_mono fun k _ => (Rounds.body_intro ER (Rd A B) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The rights device `c` uses: its neighbours' barriers, its own ends and its peers'. -/
def uses (c : Dev nD) : sProp 𝕄 :=
  iprop((dutyTok ER (barCell (across false c)) 0 false ∗ dutyTok ER (barCell (across true c)) 0 true)
    ∗ bigSep Finset.univ fun t : Xfer => iprop(dutyTok ER (sendCell c t) 0 false ∗ dutyTok ER (recvCell (peer t c) t) 0 false))
def linear (c : Dev nD) : sProp 𝕄 := iprop((bigSep Finset.univ fun k : Cell => atPos ER (cell c k) 0 ∅ 0) ∗ uses (F := F) c)

/-- The protocol's share of device `c`. -/
def share (c : Dev nD) : sProp 𝕄 := iprop(∃ K, recs A B K ∗ linear (F := F) c)

theorem share_intro (K : Dev nD × Cell → ℕ) (c : Dev nD) : iprop(recs A B K ∗ linear (F := F) c) ⊢ share A B c := by
  unfold share
  iintro H
  iexists K
  iexact H

theorem rights_around : (bigSep Finset.univ fun c : Dev nD => rights (F := F) c) ⊢ (bigSep Finset.univ fun c : Dev nD => uses (F := F) c : sProp 𝕄) := by
  have h : ∀ c : Dev nD, rights (F := F) c = (iprop((dutyTok ER (barCell c) 0 false ∗ dutyTok ER (barCell c) 0 true)
      ∗ ((bigSep Finset.univ fun t : Xfer => dutyTok ER (sendCell c t) 0 false) ∗ bigSep Finset.univ fun t : Xfer => dutyTok ER (recvCell c t) 0 false)) : sProp 𝕄) :=
    fun c => by unfold rights; rw [over_bools, over_ends]
  have h' : ∀ c : Dev nD, uses (F := F) c = (iprop((dutyTok ER (barCell (across false c)) 0 false ∗ dutyTok ER (barCell (across true c)) 0 true)
      ∗ ((bigSep Finset.univ fun t : Xfer => dutyTok ER (sendCell c t) 0 false) ∗ bigSep Finset.univ fun t : Xfer => dutyTok ER (recvCell (peer t c) t) 0 false)) : sProp 𝕄) :=
    fun c => by unfold uses; rw [bigSep_sep']
  rw [funext h, funext h']
  simp only [bigSep_sep']
  rw [deal_link false (fun c : Dev nD => (dutyTok ER (barCell c) 0 false : sProp 𝕄)), deal_link true (fun c : Dev nD => (dutyTok ER (barCell c) 0 true : sProp 𝕄)),
    deal_peer (fun (c : Dev nD) (t : Xfer) => (dutyTok ER (recvCell c t) 0 false : sProp 𝕄))]

theorem share_all :
    (bigSep Finset.univ fun c : Dev nD => iprop((bigSep Finset.univ fun k : Cell => iprop(∃ κ : ℕ, cellInv ER (Rd A B) κ (cell c k)))
          ∗ (bigSep Finset.univ fun k : Cell => iprop(atPos ER (cell c k) 0 ∅ 0 ∗ reached ER (cell c k) 0)) ∗ rights (F := F) c) : sProp 𝕄)
      ⊢ bigSep Finset.univ (share A B) := by
  rw [bigSep_sep', bigSep_sep', ← bigSep_univ_prod (fun ck : Dev nD × Cell => iprop(∃ κ : ℕ, cellInv ER (Rd A B) κ (cell ck.1 ck.2))),
    bigSep_congr (s := Finset.univ) (fun (c : Dev nD) _ => bigSep_sep' Finset.univ (fun k : Cell => (atPos ER (cell c k) 0 ∅ 0 : sProp 𝕄)) (fun k => reached ER (cell c k) 0)),
    bigSep_sep', ← bigSep_univ_prod (fun ck : Dev nD × Cell => (reached ER (cell ck.1 ck.2) 0 : sProp 𝕄))]
  iintro ⟨HI, ⟨Hat, #HR⟩, Htok⟩
  ihave HK := (BI.bigSep_exists_pi Finset.univ (fun (ck : Dev nD × Cell) (κ : ℕ) => (cellInv ER (Rd A B) κ (cell ck.1 ck.2) : sProp 𝕄))) $$ HI
  icases HK with ⟨%K, #HI⟩
  ihave Hu := (rights_around (F := F)) $$ Htok
  iapply (show iprop(recs A B K ∗ bigSep Finset.univ fun c : Dev nD => linear (F := F) c) ⊢ (bigSep Finset.univ (share A B) : sProp 𝕄) from
    (sep_mono_left (BI.bigSep_of_persistent Finset.univ (recs A B K))).trans (by
      rw [← bigSep_sep']
      exact bigSep_mono fun c _ => share_intro A B K c))
  isplitr
  · unfold recs; isplitl; · iexact HI
    iexact HR
  · iapply ((Entails.of_eq (bigSep_sep' Finset.univ (fun c : Dev nD => bigSep Finset.univ fun k : Cell => (atPos ER (cell c k) 0 ∅ 0 : sProp 𝕄)) uses).symm).trans
      (bigSep_mono fun c _ => show _ ⊢ linear (F := F) c from Entails.of_eq rfl))
    isplitl [Hat]; · iexact Hat
    iexact Hu

/-- From the semaphores of all devices to every device's share of the protocol. -/
theorem glob : (bigSep Finset.univ fun c => iprop(Pipeline.ownSems0 (Ix := Unit) (Name := ℕ) (U := UU) (Lvl := ℕ) (Val := Elt F) (τ := τ) osem c ∗ unscopedSems0 c ∗ dealt A B c) : sProp 𝕄)
    ⊢ |={Set.univ}=> bigSep Finset.univ (share A B) :=
  ((bigSep_mono fun c _ => core_alloc A B c).trans (bigSep_fupd _ _)).trans (BI.fupd_mono (share_all A B))

end Deal

/-! ## The credits -/

theorem cell_eq_iff {a b : Dev nD} {k k' : Cell} : cell a k = cell b k' ↔ a = b ∧ k = k' :=
  ⟨fun h => ⟨congrArg (fun g : GSem nD τ sig => g.1.1) h, csem_injective (congrArg Prod.snd h)⟩, fun h => by rw [h.1, h.2]⟩

/-- What the transfers of `l` owe a cell. -/
theorem owedL_at (d c : Dev nD) (k : Cell) (l : List Xfer) :
    owedL d l (cell c k) () = (l.map fun t => if peer t d = c ∧ some (true, t) = k then N else 0).sum := by
  induction l with
  | nil => rfl
  | cons t l ih =>
    unfold owedL
    rw [Pi.add_apply, Finsupp.add_apply, ih, tallyAt_apply, List.map_cons, List.sum_cons, Nat.add_comm]
    congr 1
    refine if_congr ?_ rfl rfl
    constructor
    · rintro ⟨h, _⟩; have := cell_eq_iff.mp h; exact ⟨this.1.symm, this.2.symm⟩
    · rintro ⟨h, h'⟩; exact ⟨cell_eq_iff.mpr ⟨h.symm, h'.symm⟩, rfl⟩

/-- How often a value is met in a list. -/
theorem sum_hits (t : Xfer) (n : ℕ) (l : List Xfer) : (l.map fun t' => if t' = t then n else 0).sum = l.count t * n := by
  induction l with
  | nil => exact (Nat.zero_mul n).symm
  | cons a l ih =>
    rw [List.map_cons, List.sum_cons, ih, List.count_cons]
    by_cases h : a = t
    · rw [if_pos h, if_pos (beq_iff_eq.mpr h), Nat.add_mul, Nat.one_mul, Nat.add_comm]
    · rw [if_neg h, if_neg (fun e => h (beq_iff_eq.mp e)), Nat.zero_add, Nat.add_zero]

theorem order_count (t : Xfer) : order.count t = 1 := by revert t; decide +kernel

/-- Of the arrival `t` at `c` all transfers owe a slab's credit if they start at `c`'s peer. -/
theorem order_recv (d c : Dev nD) (t : Xfer) : owedL d order (recvCell c t) () = if d = peer t c then N else 0 := by
  have h : ∀ t' : Xfer, (if peer t' d = c ∧ some (true, t') = (some (true, t) : Cell) then N else 0) = if t' = t then (if d = peer t c then N else 0) else 0 := by
    intro t'
    by_cases e : t' = t
    · subst e
      rw [if_pos rfl]
      refine if_congr ⟨fun h => ?_, fun h => ⟨?_, rfl⟩⟩ rfl rfl
      · rw [← h.1, peer_peer]
      · rw [h, peer_peer]
    · rw [if_neg e, if_neg]; rintro ⟨_, h⟩; exact e (congrArg Prod.snd (Option.some.inj h))
  refine (owedL_at d c _ order).trans ?_
  refine (congrArg (fun f => (order.map f).sum) (funext h)).trans ?_
  rw [sum_hits, order_count, Nat.one_mul]
theorem order_bar (d c : Dev nD) : owedL d order (barCell c) () = 0 := by
  refine (owedL_at d c _ order).trans ?_
  refine (congrArg (fun f => (order.map f).sum) (funext fun t => if_neg (fun h => by cases h.2))).trans ?_
  rfl

/-- A greeting's unit at a cell. -/
theorem greeting_at (d c : Dev nD) (l : Bool) (k : Cell) :
    (tallyAt (barCell (across l d)) () 1 : CellTallies nD τ sig Unit) (cell c k) () = if d = across l c ∧ k = none then 1 else 0 := by
  rw [tallyAt_apply]
  refine if_congr ?_ rfl rfl
  constructor
  · rintro ⟨h, _⟩; have := cell_eq_iff.mp h; exact ⟨by rw [this.1, across_across], this.2⟩
  · rintro ⟨h, h'⟩; exact ⟨cell_eq_iff.mpr ⟨by rw [h, across_across], h'⟩, rfl⟩

theorem owed₀_at (d c : Dev nD) (k : Cell) : owed₀ d (cell c k) () = owedL d order (cell c k) ()
    + (if d = across true c ∧ k = none then 1 else 0) + (if d = across false c ∧ k = none then 1 else 0) := by
  unfold owed₀ owed₁
  rw [Pi.add_apply, Finsupp.add_apply, Pi.add_apply, Finsupp.add_apply, greeting_at, greeting_at]

/-- What all devices together owe a cell. -/
theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  have h : ∀ d : Dev nD, owed₀ d (barCell c) () = (if d = across true c then 1 else 0) + (if d = across false c then 1 else 0) := fun d => by
    refine (owed₀_at d c none).trans ?_
    rw [order_bar, Nat.zero_add]
    exact congrArg₂ _ (if_congr ⟨And.left, fun h => ⟨h, rfl⟩⟩ rfl rfl) (if_congr ⟨And.left, fun h => ⟨h, rfl⟩⟩ rfl rfl)
  rw [Pipeline.launchCredit_owing, Finsupp.single_eq_same, Finset.sum_congr rfl fun d _ => h d, Finset.sum_add_distrib,
    Finset.sum_ite_eq' Finset.univ (across true c) fun _ => 1, Finset.sum_ite_eq' Finset.univ (across false c) fun _ => 1, if_pos (Finset.mem_univ _), if_pos (Finset.mem_univ _)]

theorem launch_recv (c : Dev nD) (t : Xfer) :
    tallyOn (recvCell c t) (launchCredit (Pipeline.owing owed₀) 0 (recvCell c t)) = (tallyAt (recvCell c t) () N : CellTallies nD τ sig Unit) := by
  unfold tallyAt; refine congrArg _ (Finsupp.ext fun u => ?_); cases u
  have h : ∀ d : Dev nD, owed₀ d (recvCell c t) () = if d = peer t c then N else 0 := fun d => by
    refine (owed₀_at d c (some (true, t))).trans ?_
    rw [if_neg (fun h => by cases h.2), if_neg (fun h => by cases h.2)]
    exact order_recv d c t
  rw [Pipeline.launchCredit_owing, Finsupp.single_eq_same, Finset.sum_congr rfl fun d _ => h d, Finset.sum_ite_eq' Finset.univ (peer t c) fun _ => N,
    if_pos (Finset.mem_univ _)]

/-- The credits device `c` waits with. -/
def credits (c : Dev nD) : sProp 𝕄 :=
  iprop(cred (tallyAt (barCell c) () 2) ∗ bigSep Finset.univ fun t : Xfer => cred (tallyAt (recvCell c t) () N))

theorem creds (c : Dev nD) : (Pipeline.launchCred owed₀ c : sProp 𝕄) ⊢ credits (F := F) c := by
  unfold Pipeline.launchCred
  refine (bigSep_subset (Finset.subset_univ (Finset.univ.map ⟨csem, csem_injective⟩))).trans ?_
  rw [bigSep_map, over_cells]
  refine BIClass.sep_mono (Entails.of_eq (congrArg cred (launch_bar c))) ?_
  rw [over_ends]
  exact sep_elim_right.trans (bigSep_mono fun t _ => Entails.of_eq (congrArg cred (launch_recv c t)))

end Cert.Exchange
-- ==== Proof.Run.lean ====
/-
The kernel's run on the four devices.
-/
module

public import proofs.«01_k».proof.Proof.Deal
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The factors as device `c` finds them. -/
def left (c : Dev nD) : Left F := (win0_0.blk (0 : Fin 1)).view.read (Elt F) (m ((c : Thread nD τ).loc main_arg0))
def right (c : Dev nD) : Right F := (win0_1.blk (0 : Fin 1)).view.read (Elt F) (m ((c : Thread nD τ).loc main_arg1))
/-- The result as device `c` leaves it. -/
def final (c : Dev nD) : (S1024x1024 : Shape).Idx → Elt F .f32 := whole c (result (left m) (right m) c)

def start (c : Dev nD) : sProp 𝕄 := iprop(share (left m) (right m) c ∗ credits (F := F) c ∗ levAts L lv)
/-- Before the kernel's point, and after it. -/
def before (c : Dev nD) : sProp 𝕄 := iprop(start m c ∗ scratch (F := F) c)
def after (c : Dev nD) : sProp 𝕄 :=
  iprop(scratch (F := F) c ∗ semVal (barCell c) 0 ∗ bigSep Finset.univ fun x : Bool × Xfer => semVal (cell c (some x)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => left m c
    | ⟨1, _⟩ => right m c
    | ⟨2, _⟩ => final m c
  Φ t := match t with
    | ⟨0, _⟩ => before m c
    | ⟨_ + 1, _⟩ => after (F := F) c
  q _ := fullShare
  owed t := match t with
    | ⟨0, _⟩ => owed₀ c
    | ⟨_ + 1, _⟩ => 0

/-! ## The buffers -/

theorem anyBuf_whole (c : Dev nD) (b : Ref sig .tc) :
    (anyBuf (F := F) c (Memref.whole b) : sProp 𝕄) = iprop(∃ f : Buf (Elt F) (((c : Dev nD) : Thread nD τ).loc b), ((c : Thread nD τ).loc b) ↦{fullShare} f) := by
  unfold anyBuf
  simp only [owns_whole]

theorem scratch_in (c : Dev nD) : (Pipeline.scopedRest cfg0.spec c : sProp 𝕄) ⊢ scratch (F := F) c := by
  rw [scopedRest0_eq]
  simp only [← anyBuf_whole]
  unfold scratch both
  iintro ⟨H0, H1, H2, H3, H4, H5, H6, H7, H8, H9, H10, H11, H12, H13, H14⟩
  isplitl [H0]; · iexact H0
  isplitl [H1 H8]
  · isplitl [H1]; · iexact H1
    iexact H8
  isplitl [H2 H9]
  · isplitl [H2]; · iexact H2
    iexact H9
  isplitl [H3 H10]
  · isplitl [H3]; · iexact H3
    iexact H10
  isplitl [H4 H11]
  · isplitl [H4]; · iexact H4
    iexact H11
  isplitl [H5 H12]
  · isplitl [H5]; · iexact H5
    iexact H12
  isplitl [H6 H13]
  · isplitl [H6]; · iexact H6
    iexact H13
  isplitl [H7]; · iexact H7
  iexact H14

theorem scratch_out (c : Dev nD) : scratch (F := F) c ⊢ (Pipeline.scopedRest cfg0.spec c : sProp 𝕄) := by
  rw [scopedRest0_eq]
  simp only [← anyBuf_whole]
  unfold scratch both
  iintro ⟨H0, ⟨H1, H8⟩, ⟨H2, H9⟩, ⟨H3, H10⟩, ⟨H4, H11⟩, ⟨H5, H12⟩, ⟨H6, H13⟩, H7, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The kernel's point -/

section Point
variable (A : Dev nD → Left F) (B : Dev nD → Right F)

/-- The device's share of the protocol and the credits, as its program takes them. -/
theorem dealt_tokens (c : Dev nD) : iprop(linear (F := F) c ∗ credits (F := F) c)
    ⊢ (iprop(barGhost (F := F) c ∗ bigSep Finset.univ fun t : Xfer => tokens (F := F) c t) : sProp 𝕄) := by
  rw [tokens_eq]
  unfold linear uses credits barGhost expects
  rw [over_cells, over_ends, bigSep_sep' Finset.univ (fun t : Xfer => cred (tallyAt (recvCell c (t.1, t.2)) () N))]
  iintro ⟨⟨⟨Pb, Ps, Pr⟩, ⟨Df, Dt⟩, Dx⟩, Cb, Cr⟩
  isplitl [Pb Df Dt Cb]
  · isplitl [Df]; · iexact Df
    isplitl [Dt]; · iexact Dt
    isplitl [Cb]; · iexact Cb
    iexact Pb
  isplitl [Dx]; · iexact Dx
  isplitr [Ps]
  · isplitl [Cr]; · iexact Cr
    iexact Pr
  iexact Ps

theorem closed_all (c : Dev nD) : iprop((bigSep Finset.univ fun t : Xfer => closedRecv (F := F) c t.1 t.2) ∗ bigSep Finset.univ fun t : Xfer => closedSent (F := F) c t.1 t.2)
    ⊢ (bigSep Finset.univ fun x : Bool × Xfer => semVal (cell c (some x)) 0 : sProp 𝕄) := by
  rw [over_ends]
  iintro ⟨Hr, Hs⟩
  isplitl [Hs]; · iexact Hs
  iexact Hr
end Point

def pointPre (c : Dev nD) : sProp 𝕄 :=
  iprop(before m c ∗ (dats m ρ 0 c).owesAt () t0_0.castSucc
    ∗ (∃ d, owns (c : Thread nD τ) aM fullShare ((dats m ρ 0 c).before (0 : Fin 3) t0_0 d))
    ∗ (∃ d, owns (c : Thread nD τ) bM fullShare ((dats m ρ 0 c).before (1 : Fin 3) t0_0 d))
    ∗ (∃ d, owns (c : Thread nD τ) oM fullShare ((dats m ρ 0 c).before (2 : Fin 3) t0_0 d)))
def pointPost (c : Dev nD) : sProp 𝕄 :=
  iprop(after (F := F) c ∗ (dats m ρ 0 c).owesAt () t0_0.succ
    ∗ owns (c : Thread nD τ) aM fullShare (left m c) ∗ owns (c : Thread nD τ) bM fullShare (right m c) ∗ owns (c : Thread nD τ) oM fullShare (final m c))

theorem before_left (c : Dev nD) (d) : (dats m ρ 0 c).before (0 : Fin 3) t0_0 d = left m c := by
  unfold Dat.before; rw [if_pos (show (cfg0.win (0 : Fin 3)).fetch t0_0 = true from rfl)]; rfl
theorem before_right (c : Dev nD) (d) : (dats m ρ 0 c).before (1 : Fin 3) t0_0 d = right m c := by
  unfold Dat.before; rw [if_pos (show (cfg0.win (1 : Fin 3)).fetch t0_0 = true from rfl)]; rfl

theorem runs_point (c : Dev nD) : pointPre m ρ c ⊢ runs (F := F) c (bodyAt F) fun _ => pointPost m ρ c := by
  unfold pointPre before start share
  iintro ⟨⟨⟨⟨%K, #Hr, Hlin⟩, Hcr, #Hlev⟩, Hscr⟩, Ho, ⟨%d0, Ha⟩, ⟨%d1, Hb⟩, ⟨%d2, Hout⟩⟩
  ihave Ha := (Entails.of_eq (congrArg (fun X => owns (c : Thread nD τ) aM fullShare X) (before_left m ρ c d0))) $$ Ha
  ihave Hb := (Entails.of_eq (congrArg (fun X => owns (c : Thread nD τ) bM fullShare X) (before_right m ρ c d1))) $$ Hb
  ihave Hout := (anyBuf_of c oM _) $$ Hout
  ihave Ht := (dealt_tokens (F := F) c) $$ [Hlin Hcr]
  · isplitl [Hlin]; · iexact Hlin
    iexact Hcr
  icases Ht with ⟨Hbar, Htok⟩
  unfold Dat.owesAt Pipeline.owesWithin
  icases Ho with ⟨%W, %hW, HO⟩
  iapply (runs_body (left m) (right m) K c) $$ [HO Hbar Htok Ha Hb Hout Hscr]
  · unfold atStart
    isplitr; · iexact Hr
    isplitr; · iexact Hlev
    isplitl [HO]; · iexists W; iexact HO
    isplitl [Hbar]; · iexact Hbar
    isplitl [Htok]; · iexact Htok
    isplitl [Ha]; · iexact Ha
    isplitl [Hb]; · iexact Hb
    isplitl [Hout]; · iexact Hout
    iexact Hscr
  unfold atEnd pointPost after owing
  iintro ⟨⟨%W', HO⟩, Ha, Hb, Hout, Hscr, Hbar, HR, HS⟩
  isplitl [Hscr Hbar HR HS]
  · isplitl [Hscr]; · iexact Hscr
    isplitl [Hbar]; · iexact Hbar
    iapply (closed_all (F := F) c)
    isplitl [HR]; · iexact HR
    iexact HS
  isplitl [HO]
  · iexists W'
    isplitr; · ipureintro; exact fun _ _ => Or.inl trivial
    iexact HO
  isplitl [Ha]; · iexact Ha
  isplitl [Hb]; · iexact Hb
  iexact Hout

set_option maxRecDepth 4000 in
/-- The kernel's body does what its point promises. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  have hp : (defs₀ (F := F)) Proc.tc cfg0.body (cfg0.bodyArgs t0_0 (cfg0.slots t0_0)) = bodyAt F := by
    unfold bodyAt
    rfl
  rw [hp]
  have h := runs_point m ρ c
  unfold runs at h
  generalize bodyAt F = p at h ⊢
  exact h

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ share (left m) (right m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl]
  unfold before
  iintro ⟨Hs, -, Hr⟩
  isplitl [Hs]; · iexact Hs
  iapply (scratch_in (F := F) c)
  iexact Hr

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after (F := F) c from rfl, unscopedSems0_eq]
  unfold after Pipeline.ownSems0
  iintro ⟨Hr, HzB, Hz⟩
  isplitl [HzB]; · iexact HzB
  isplitl [Hz]; · iexact Hz
  iapply (scratch_out (F := F) c)
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- The contents of the windows' arrays after the run. -/
def ends (c : Dev nD) (w : Fin cfg0.W) : Buf (Elt F) ((cfg0.win w).arr.view.loc (c : Thread nD τ)) := (dats m ρ 0 c).arrAt w cfg0.N

set_option maxRecDepth 8000 in
/-- From any memory with every semaphore at zero the run ends, every array of every device holds what `ends` says, and every
semaphore is at zero again. -/
theorem run_ends : θ_run defs (onTc (τ := τ) (main (F := F))) (s₀ m ρ) (fun r =>
    (∀ c : Dev nD, ∀ w : Fin cfg0.W, r.2.mem ((cfg0.win w).arr.view.loc (c : Thread nD τ)) = ends m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt (left m) (right m)) (G' := share (left m) (right m)) (u₀ := u₀)
    (hu₀ := by
      unfold u₀
      iintro Hu
      ihave H := (ownU_pair _ _) $$ Hu
      icases H with ⟨HP, HX⟩
      imod (fund_cells (left m) (right m)) $$ HX with HG
      imodintro
      isplitl [HP] <;> iassumption)
    (hglob := glob (left m) (right m))
    (hA := fun _ _ => rfl) (hpf := fun _ k => k.elim0)
    (X := start m) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Value.lean ====
/-
What the run leaves in the buffers: the arguments untouched, and in the result, over the extended reals, the larger of
zero and the sum of the four devices' products.
-/
module

public import proofs.«01_k».proof.Proof.Run
public import Idealize.ShloMosaic.Lib.MatmulPlain
public import Idealize.ShloMosaic.Lib.Pipeline.Value

@[expose] public section

noncomputable section

namespace Cert.Exchange

open Cert.KernelIdeal Cert.KernelIdeal.Gen
open Idealize.ShloMosaic
open Idealize.ShloMosaic.TcCoe
open Idealize.ShloMosaic.ValueIdx
open Idealize.SL.Sem
open scoped BigOperators

/-! ## The buffers at the end -/

section Ends
variable {F : FTy → Type} [FloatOps F] (m : (ℓ : Loc nD τ sig) → Buf (Elt F) ℓ) (ρ : Dev nD → PrngReg)

/-- The one block of each array is the array. -/
theorem left_eq (c : Dev nD) : left m c = m ((c : Thread nD τ).loc main_arg0) :=
  funext fun y => congrArg (m ((c : Thread nD τ).loc main_arg0)) (funext fun a => Fin.ext (win0_0.rect_emb_val_of_index_zero t0_0 a rfl y))
theorem right_eq (c : Dev nD) : right m c = m ((c : Thread nD τ).loc main_arg1) :=
  funext fun y => congrArg (m ((c : Thread nD τ).loc main_arg1)) (funext fun a => Fin.ext (win0_1.rect_emb_val_of_index_zero t0_0 a rfl y))
theorem out_emb (y : (S1024x1024 : Shape).Idx) : (win0_2.blk (0 : Fin 1)).view.emb y = y :=
  funext fun a => Fin.ext (win0_2.rect_emb_val_of_index_zero t0_0 a rfl y)

theorem ends_left (c : Dev nD) : ends m ρ c (0 : Fin 3) = m ((c : Thread nD τ).loc main_arg0) := (dats m ρ 0 c).arrAt_in (0 : Fin 3) rfl _
theorem ends_right (c : Dev nD) : ends m ρ c (1 : Fin 3) = m ((c : Thread nD τ).loc main_arg1) := (dats m ρ 0 c).arrAt_in (1 : Fin 3) rfl _
theorem ends_out (c : Dev nD) : ends m ρ c (2 : Fin 3) = final m c :=
  (dats m ρ 0 c).arrAt_eq_of_cover (2 : Fin 3) (final m c)
    (fun t _ => by
      rw [fin_N0 t]
      exact funext fun y => (congrArg (final m c) (out_emb y)).symm)
    (fun i => ⟨t0_0, rfl, Finset.mem_map.mpr ⟨i, Finset.mem_univ _, out_emb i⟩⟩)

/-- From any memory with every semaphore at zero the run ends, the result of every device is the glued slabs, its arguments
are unchanged, and every semaphore is at zero. -/
theorem run_main : θ_run defs (onTc (τ := τ) (main (F := F))) ⟨m, fun _ => 0, ρ⟩ (fun r =>
    (∀ c : Dev nD, r.2.mem ((c : Thread nD τ).loc main_v1) = final m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (ends_out m ρ c), (h.1 c (0 : Fin 3)).trans (ends_left m ρ c),
    (h.1 c (1 : Fin 3)).trans (ends_right m ρ c)⟩, h.2⟩) (run_ends m ρ)

/-- Of which: the arguments and the semaphores. -/
theorem run_arguments : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2, h.2⟩) (run_main m ρ)
end Ends

/-! ## The rows of the slabs -/

/-- The result's row at which slab `k` of the kept rows begins. -/
def rowOf (s : Bool) (d : Dev nD) (k : Fin 4) : ℕ := bigOff s d 0 + slabOff s d k 0

theorem sent_row (s : Bool) (d : Dev nD) (k : Fin 4) : sentOff s (across s d) k 0 = rowOf s d k := by revert s d k; decide +kernel
theorem keep_row (s : Bool) (d : Dev nD) : keepOff s d 0 = bigOff s d 0 := by revert s d; decide +kernel
theorem sent_col (s : Bool) (d : Dev nD) (k : Fin 4) : sentOff s d k 1 = 0 := by revert s d k; decide +kernel
theorem keep_col (s : Bool) (d : Dev nD) : keepOff s d 1 = 0 := by revert s d; decide +kernel
theorem slab_column (s : Bool) (d : Dev nD) (k : Fin 4) : slabOff s d k 1 = 0 := by revert s d k; decide +kernel
/-- The low slabs of a device are the high slabs of its second neighbour. -/
theorem low_row (s : Bool) (d : Dev nD) (v : Fin 2) : rowOf s (across (!s) d) (lo v) = rowOf s d (hi v) := by revert s d v; decide +kernel
theorem high_row (s : Bool) (d : Dev nD) (v : Fin 2) : rowOf s (across (!s) d) (hi v) = rowOf s d (lo v) := by revert s d v; decide +kernel
theorem peer_row (s : Bool) (d : Dev nD) (v : Fin 2) :
    rowOf s (across (!s) (peer (s, .pass v) d)) (hi v) = rowOf s (across s d) (lo v) ∧ rowOf s (peer (s, .back v) d) (hi v) = rowOf s (across s d) (hi v) := by
  revert s d v; decide +kernel

/-- A device, its first neighbour, and the same two of its second neighbour are the four devices. -/
theorem sum_devices (s : Bool) (d : Dev nD) (f : Dev nD → EReal) :
    (f d + f (across s d)) + (f (across (!s) d) + f (across s (across (!s) d))) = ∑ e, f e := by
  have hu : ∀ (s : Bool) (d : Dev nD), (Finset.univ : Finset (Dev nD)) = {d, across s d, across (!s) d, across s (across (!s) d)}
      ∧ d ∉ ({across s d, across (!s) d, across s (across (!s) d)} : Finset (Dev nD))
      ∧ across s d ∉ ({across (!s) d, across s (across (!s) d)} : Finset (Dev nD)) ∧ across (!s) d ≠ across s (across (!s) d) := by decide +kernel
  obtain ⟨h, h₁, h₂, h₃⟩ := hu s d
  rw [h, Finset.sum_insert h₁, Finset.sum_insert h₂, Finset.sum_pair h₃, add_assoc]

/-! ## The values -/

section Values
variable (A : Dev nD → Left Ideal) (B : Dev nD → Right Ideal)

/-- The product of device `d`'s factors, at row `r` and column `q`. -/
def dot (d : Dev nD) (r q : Fin 1024) : EReal := ∑ k : Fin 512, (A d (ix2 r k) : EReal) * (B d (ix2 k q) : EReal)
/-- The larger of zero and the sum of the four products. -/
def total (r q : Fin 1024) : EReal := max (∑ e : Dev nD, dot A B e r q) 0

theorem factor_eq (d : Dev nD) : factor B d = B d := by
  funext i
  unfold factor k0_pay1
  simp only [shapeCast_self]
  rfl

/-- A row of 64, or of 256, rows of the left factor times the right factor. -/
theorem product_apply {n : ℕ} (d : Dev nD) (off : Fin 2 → ℕ) (inb : ∀ a, off a + (⟨2, ![n, 512]⟩ : Shape).size a ≤ S1024x512.size a)
    (hcol : off 1 = 0) (j : (⟨2, ![n, 1024]⟩ : Shape).Idx) (r : Fin 1024) (hr : r.val = off 0 + (j 0).val) :
    FloatOps.matmul (F := Ideal) (φ₁ := .bf16) (φ₂ := .bf16) (DotDims.plain n 512 1024) none
        (fun i => A d ((Rect.unit (s := S1024x512) off (⟨2, ![n, 512]⟩ : Shape).size inb).emb i) : FVec Ideal ⟨2, ![n, 512]⟩ .bf16)
        (B d : FVec Ideal ⟨2, ![512, 1024]⟩ .bf16) (constant ⟨2, ![n, 1024]⟩ .f32 0x00000000#32) j
      = dot A B d r (j 1) := by
  have hj : j = ix2 (j 0) (j 1) := by funext a; match a with | 0 => rfl | 1 => rfl
  have hz : (constant ⟨2, ![n, 1024]⟩ .f32 0x00000000#32 : FVec Ideal ⟨2, ![n, 1024]⟩ .f32) (ix2 (j 0) (j 1)) = (0 : EReal) := Ideal.ofBits_zero_f32
  have hi : ∀ k : Fin 512, (Rect.unit (s := S1024x512) off (⟨2, ![n, 512]⟩ : Shape).size inb).emb (ix2 (j 0) k) = ix2 r k := fun k => by
    funext a
    apply Fin.ext
    match a with
    | 0 => show off 0 + 1 * (j 0).val = r.val; omega
    | 1 => show off 1 + 1 * k.val = k.val; omega
  refine (congrArg _ hj).trans ((Ideal.matmul_plain_apply (M := n) (K := 512) (N := 1024) none _ _ _ (j 0) (j 1)).trans ?_)
  rw [hz, zero_add]
  unfold dot
  exact Finset.sum_congr rfl fun k _ => by rw [hi k]

/-- The products of the slabs sent first. -/
theorem first_apply (s : Bool) (d : Dev nD) (k : Fin 4) (j : (S64x1024 : Shape).Idx) (r : Fin 1024) (hr : r.val = sentOff s d k 0 + (j 0).val) :
    first A B s d k j = dot A B d r (j 1) := by
  unfold first
  rw [factor_eq]
  unfold k0_pay2
  simp only [shapeCast_self]
  exact product_apply A B d (sentOff s d k) (sentOff_inb s d k) (sent_col s d k) j r hr

/-- The products of the kept rows. -/
theorem big_apply (s : Bool) (d : Dev nD) (j : (S256x1024 : Shape).Idx) (r : Fin 1024) (hr : r.val = keepOff s d 0 + (j 0).val) :
    big A B s d j = dot A B d r (j 1) := by
  unfold big
  rw [factor_eq]
  unfold k0_pay11
  simp only [shapeCast_self]
  exact product_apply A B d (keepOff s d) (keepOff_inb s d) (keep_col s d) j r hr

theorem own_apply (s : Bool) (d : Dev nD) (k : Fin 4) (j : (S64x1024 : Shape).Idx) (r : Fin 1024) (hr : r.val = rowOf s d k + (j 0).val) :
    own A B s d k j = dot A B d r (j 1) := by
  have h1 : (slabR s d k).emb j 1 = j 1 := Fin.ext (show slabOff s d k 1 + 1 * (j 1).val = (j 1).val by rw [slab_column]; omega)
  have h := big_apply A B s d ((slabR s d k).emb j) r
    (show r.val = keepOff s d 0 + (slabOff s d k 0 + 1 * (j 0).val) by rw [keep_row, hr]; unfold rowOf; omega)
  exact h.trans (congrArg (dot A B d r) h1)

/-- The first neighbour's product of the same rows. -/
theorem near_apply (s : Bool) (d : Dev nD) (k : Fin 4) (j : (S64x1024 : Shape).Idx) (r : Fin 1024) (hr : r.val = rowOf s d k + (j 0).val) :
    first A B s (across s d) k j = dot A B (across s d) r (j 1) :=
  first_apply A B s (across s d) k j r (by rw [sent_row]; exact hr)

/-- What goes over the second link is the sum of two devices' products. -/
theorem second_apply (s : Bool) (d : Dev nD) (v : Fin 2) (j : (S64x1024 : Shape).Idx) (r : Fin 1024) (hr : r.val = rowOf s d (lo v) + (j 0).val) :
    second A B s d v j = dot A B d r (j 1) + dot A B (across s d) r (j 1) := by
  unfold second k0_pay14
  simp only [shapeCast_self]
  exact congrArg₂ (fun x y : EReal => x + y) (own_apply A B s d (lo v) j r hr) (near_apply A B s d (lo v) j r hr)

/-- A finished slab is the larger of zero and the sum of all four. -/
theorem done_apply (s : Bool) (d : Dev nD) (v : Fin 2) (j : (S64x1024 : Shape).Idx) (r : Fin 1024) (hr : r.val = rowOf s d (hi v) + (j 0).val) :
    done A B s d v j = total A B r (j 1) := by
  unfold done k0_pay22
  simp only [shapeCast_self]
  have h := congrArg₂ (fun x y : EReal => x + y)
    (congrArg₂ (fun x y : EReal => x + y) (own_apply A B s d (hi v) j r hr) (near_apply A B s d (hi v) j r hr))
    (second_apply A B s (across (!s) d) v j r (by rw [low_row]; exact hr))
  exact congrArg₂ (fun x y : EReal => max x y) (h.trans (sum_devices s d fun e => dot A B e r (j 1))) Ideal.ofBits_zero_f32

/-- Its rounding, extended again, is the slab itself. -/
theorem third_apply (s : Bool) (d : Dev nD) (v : Fin 2) (j : (S64x1024 : Shape).Idx) (r : Fin 1024) (hr : r.val = rowOf s d (hi v) + (j 0).val) :
    k0_pay29 (third A B s d v) j = total A B r (j 1) := by
  refine Eq.trans ?_ (done_apply A B s d v j r hr)
  unfold third k0_pay23 k0_pay29
  simp only [shapeCast_self]
  rfl

/-- The slabs of the result, by the device that finished each. -/
theorem result_kept (c : Dev nD) (s : Bool) (v : Fin 2) :
    result A B c s false (lo v) = k0_pay29 (third A B s (across (!s) c) v) ∧ result A B c s false (hi v) = done A B s c v :=
  match v with | 0 => ⟨rfl, rfl⟩ | 1 => ⟨rfl, rfl⟩
theorem result_sent (c : Dev nD) (s : Bool) (v : Fin 2) :
    result A B c s true (lo v) = k0_pay29 (third A B s (across (!s) (peer (s, .pass v) c)) v)
      ∧ result A B c s true (hi v) = k0_pay29 (third A B s (peer (s, .back v) c) v) :=
  match v with | 0 => ⟨rfl, rfl⟩ | 1 => ⟨rfl, rfl⟩

/-- Every slab of the result, at the row where it lies. -/
theorem result_apply (c : Dev nD) (s b : Bool) (k : Fin 4) (j : (S64x1024 : Shape).Idx) (r : Fin 1024)
    (hr : r.val = rowOf s (who c s b) k + (j 0).val) : result A B c s b k j = total A B r (j 1) := by
  obtain ⟨v, hv⟩ := (by decide : ∀ k : Fin 4, ∃ v : Fin 2, k = lo v ∨ k = hi v) k
  rcases hv with rfl | rfl <;> cases b
  · exact (congrFun (result_kept A B c s v).1 j).trans (third_apply A B s _ v j r (by rw [high_row]; exact hr))
  · exact (congrFun (result_sent A B c s v).1 j).trans (third_apply A B s _ v j r (by rw [(peer_row s c v).1]; exact hr))
  · exact (congrFun (result_kept A B c s v).2 j).trans (done_apply A B s _ v j r hr)
  · exact (congrFun (result_sent A B c s v).2 j).trans (third_apply A B s _ v j r (by rw [(peer_row s c v).2]; exact hr))

/-- The whole result of every device, index by index. -/
theorem whole_apply (c : Dev nD) (i : (S1024x1024 : Shape).Idx) : whole c (result A B c) i = total A B (i 0) (i 1) := by
  obtain ⟨⟨s, b⟩, -, hx⟩ := Finset.mem_biUnion.mp ((part_cover c).symm ▸ Finset.mem_univ i)
  rw [← Rect.map_emb_univ] at hx
  obtain ⟨y, -, rfl⟩ := Finset.mem_map.mp hx
  obtain ⟨k, -, hk⟩ := Finset.mem_biUnion.mp ((slab_cover s (who c s b)).symm ▸ Finset.mem_univ y)
  rw [← Rect.map_emb_univ] at hk
  obtain ⟨j, -, rfl⟩ := Finset.mem_map.mp hk
  have hc : (partR c (s, b)).emb ((slabR s (who c s b) k).emb j) 1 = j 1 := Fin.ext
    (show bigOff s (who c s b) 1 + 1 * (slabOff s (who c s b) k 1 + 1 * (j 1).val) = (j 1).val by rw [big_col, slab_column]; omega)
  refine (whole_emb c (result A B c) s b k j).trans ((result_apply A B c s b k j _ ?_).trans (congrArg (total A B _) hc.symm))
  show bigOff s (who c s b) 0 + 1 * (slabOff s (who c s b) k 0 + 1 * (j 0).val) = rowOf s (who c s b) k + (j 0).val
  unfold rowOf
  omega

end Values

end Cert.Exchange
-- ==== Proof.Against.lean ====
/-
The reference's result is the kernel's: the contraction over 2048 positions is the sum of the four devices' contractions
over 512.
-/
module

public import proofs.«01_k».proof.Proof.Value
public import proofs.«01_k».proof.Proof.Gen.ReferenceIdeal.Run
public import proofs.«01_k».proof.Proof.Gen.Kernel
public import proofs.«01_k».proof.Defs
public import Idealize.ShloMosaic.Lib.KernelVsHost
public import Idealize.ShloMosaic.Lib.Layout

@[expose] public section

noncomputable section

namespace Cert.Exchange

open Idealize.ShloMosaic
open Idealize.ShloMosaic.TcCoe
open Idealize.ShloMosaic.ValueIdx
open Idealize.SL.Sem
open scoped BigOperators

/-- The reference's two arrays. -/
abbrev LeftAll : Type := (⟨2, ![1024, 2048]⟩ : Shape).Idx → EReal
abbrev RightAll : Type := (⟨2, ![2048, 1024]⟩ : Shape).Idx → EReal

/-- Position `k` of device `d`'s part of the contraction. -/
def spot (d : Fin 4) (k : Fin 512) : Fin 2048 := ⟨d.val * 512 + k.val, by omega⟩

/-- A sum over the whole contraction, device by device. -/
theorem sum_places (f : Fin 2048 → EReal) : ∑ x, f x = ∑ d : Fin 4, ∑ k : Fin 512, f (spot d k) := by
  rw [← Equiv.sum_comp (finProdFinEquiv (m := 4) (n := 512)) f, Fintype.sum_prod_type]
  refine Finset.sum_congr rfl fun d _ => Finset.sum_congr rfl fun k _ => congrArg f (Fin.ext ?_)
  show k.val + 512 * d.val = d.val * 512 + k.val
  omega

/-- The reference's result, index by index. -/
theorem reference_apply (X : LeftAll) (Y : RightAll) (i : (⟨2, ![1024, 1024]⟩ : Shape).Idx) :
    (maximumf (Host.dotGeneral (F := Ideal) (φ₁ := .f32) (φ₂ := .f32) Cert.ReferenceIdeal.dot_S1024x2048_S2048x1024_S1024x1024_1_0_0_1_n_n none X Y)
      (broadcastInDim Cert.ReferenceIdeal.S1024x1024 ![] Cert.ReferenceIdeal.Gen.bcast_S_S1024x1024 (constant (F := Ideal) Cert.ReferenceIdeal.S_ .f32 0x00000000#32))
      : FVec Ideal Cert.ReferenceIdeal.S1024x1024 .f32) i
      = max (∑ x : Fin 2048, X (ix2 (i 0) x) * Y (ix2 x (i 1))) 0 := by
  have hi : i = ix2 (i 0) (i 1) := by funext a; match a with | 0 => rfl | 1 => rfl
  have hz : (constant ⟨2, ![1024, 1024]⟩ .f32 0x00000000#32 : FVec Ideal ⟨2, ![1024, 1024]⟩ .f32) (ix2 (i 0) (i 1)) = (0 : EReal) := Ideal.ofBits_zero_f32
  have h := Ideal.matmul_plain_apply (M := 1024) (K := 2048) (N := 1024) (φ₁ := .f32) (φ₂ := .f32) none X Y (constant ⟨2, ![1024, 1024]⟩ .f32 0x00000000#32) (i 0) (i 1)
  rw [hz, zero_add] at h
  have hd := congrFun (matmul_zero_eq_dotGeneral (φ₁ := .f32) (φ₂ := .f32) Cert.ReferenceIdeal.dot_S1024x2048_S2048x1024_S1024x1024_1_0_0_1_n_n none X Y) i
  refine congrArg₂ (fun x y : EReal => max x y) (hd.symm.trans (Eq.trans ?_ h)) Ideal.ofBits_zero_f32
  exact congrArg (FloatOps.matmul (F := Ideal) (φ₁ := .f32) (φ₂ := .f32) (DotDims.plain 1024 2048 1024) none X Y (constant ⟨2, ![1024, 1024]⟩ .f32 0x00000000#32)) hi

/-- The sum of the devices' products is the product of the whole arrays. -/
theorem total_blocks (A : Dev Cert.KernelIdeal.nD → Left Ideal) (B : Dev Cert.KernelIdeal.nD → Right Ideal) (X : LeftAll) (Y : RightAll)
    (hA : ∀ c, A c = Layout.block ⟨2, ![1024, 512]⟩ ⟨2, ![1024, 2048]⟩ 1 4 c X)
    (hB : ∀ c, B c = Layout.block ⟨2, ![512, 1024]⟩ ⟨2, ![2048, 1024]⟩ 0 4 c Y) (r q : Fin 1024) :
    total A B r q = max (∑ x : Fin 2048, X (ix2 r x) * Y (ix2 x q)) 0 := by
  unfold total
  rw [sum_places]
  refine congrArg (fun x : EReal => max x 0) (Finset.sum_congr rfl fun d _ => ?_)
  unfold dot
  refine Finset.sum_congr rfl fun k _ => ?_
  rw [hA, hB]
  refine congrArg₂ (fun x y : EReal => x * y) (congrArg X ?_) (congrArg Y ?_)
  · funext a
    apply Fin.ext
    match a with | 0 => rfl | 1 => rfl
  · funext a
    apply Fin.ext
    match a with | 0 => rfl | 1 => rfl

/-- What the four devices leave in their results is what the reference computes. -/
theorem final_eq (m : (ℓ : Loc Cert.KernelIdeal.nD Cert.KernelIdeal.τ Cert.KernelIdeal.sig) → Buf (Elt Ideal) ℓ) (X : LeftAll) (Y : RightAll)
    (hA : ∀ c : Dev Cert.KernelIdeal.nD, m ((c.tc : Thread Cert.KernelIdeal.nD Cert.KernelIdeal.τ).loc Cert.KernelIdeal.main_arg0)
      = Layout.block ⟨2, ![1024, 512]⟩ ⟨2, ![1024, 2048]⟩ 1 4 c X)
    (hB : ∀ c : Dev Cert.KernelIdeal.nD, m ((c.tc : Thread Cert.KernelIdeal.nD Cert.KernelIdeal.τ).loc Cert.KernelIdeal.main_arg1)
      = Layout.block ⟨2, ![512, 1024]⟩ ⟨2, ![2048, 1024]⟩ 0 4 c Y) (c : Dev Cert.KernelIdeal.nD) :
    final m c = (maximumf (Host.dotGeneral (F := Ideal) (φ₁ := .f32) (φ₂ := .f32) Cert.ReferenceIdeal.dot_S1024x2048_S2048x1024_S1024x1024_1_0_0_1_n_n none X Y)
      (broadcastInDim Cert.ReferenceIdeal.S1024x1024 ![] Cert.ReferenceIdeal.Gen.bcast_S_S1024x1024 (constant (F := Ideal) Cert.ReferenceIdeal.S_ .f32 0x00000000#32))
      : FVec Ideal Cert.ReferenceIdeal.S1024x1024 .f32) :=
  funext fun i => (whole_apply (left m) (right m) c i).trans
    ((total_blocks (left m) (right m) X Y (fun d => (left_eq m d).trans (hA d)) (fun d => (right_eq m d).trans (hB d)) (i 0) (i 1)).trans
      (reference_apply X Y i).symm)

/-! ## The claims -/

section Same
variable (F : FTy → Type) [FloatOps F]

set_option maxRecDepth 8000 in
/-- The kernel and its idealization run the same body, -/
theorem same_body : Cert.Kernel.defs₀ (F := F) = Cert.KernelIdeal.defs₀ (F := F) := by
  unfold Cert.Kernel.defs₀ Cert.KernelIdeal.defs₀
  refine congrArg Defs.onTc (funext fun l => funext fun a => ?_)
  match l with
  | 0 => rfl
  | ⟨_ + 1, h⟩ => exact absurd h (Nat.not_lt.2 (Nat.le_add_left _ _))
/-- hence the same program. -/
theorem same_program : Cert.Kernel.defs (F := F) = Cert.KernelIdeal.defs (F := F) := by
  unfold Cert.Kernel.defs Cert.KernelIdeal.defs
  rw [same_body]
  rfl
end Same

/-- The kernel ends from every memory with its arguments unchanged and every semaphore at zero, at bits -/
theorem frame_kernel : Cert.quiescent_Kernel := by
  intro m ρ _
  rw [same_program]
  exact run_arguments (F := Bits) m ρ
/-- and over the extended reals. -/
theorem frame_ideal : Cert.quiescent_KernelIdeal := fun m ρ _ => run_arguments (F := Ideal) m ρ

/-- The reference has no semaphores. -/
theorem no_semaphores : ∀ _ : SemLoc Cert.ReferenceIdeal.sig, False := by decide

/-- The reference ends from every memory with its arguments unchanged. -/
theorem frame_reference : Cert.quiescent_ReferenceIdeal := fun m ρ _ =>
  (θ_run Cert.ReferenceIdeal.defs _ _).mono (fun _ h => ⟨fun c => (h c).2, funext fun x => (no_semaphores x.2).elim⟩)
    (Cert.ReferenceIdeal.Value.run (F := Ideal) m ρ)

/-- From memories where each device holds its blocks of the reference's arrays, both end, and every device's result is the
reference's. -/
theorem same_result : Cert.algebraic_KernelIdeal_ReferenceIdeal := fun m ρ m' ρ' _ hm =>
  ⟨_, (θ_run Cert.KernelIdeal.defs _ _).mono (fun _ h c => ⟨((h.1 c).1).trans (final_eq m _ _ (fun d => (hm d).1) (fun d => (hm d).2) c), (h.1 c).2⟩)
      (run_main (F := Ideal) m ρ),
    (θ_run Cert.ReferenceIdeal.defs _ _).mono (fun _ h => h 0) (Cert.ReferenceIdeal.Value.run (F := Ideal) m' ρ')⟩

end Cert.Exchange

end
-- ==== Proof.lean ====
/-
The certificate: the program facts, the three frames, the idealization and the equality with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Against
public import Idealize.ShloMosaic.Adequacy
public import Idealize.ShloMosaic.Init

@[expose] public section

noncomputable section

namespace Cert.Proof

open Idealize.ShloMosaic Idealize.SL.Sem Cert.Kernel

/-- Everything claimed of the kernel. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.same_result⟩

end Cert.Proof

end
